-- ==== Defs.lean ====
def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_Dwqkv (m : (ℓ : Loc Cert.Dwqkv.nD Cert.Dwqkv.τ Cert.Dwqkv.sig) → Buf (Elt Bits) ℓ) : Prop :=
  True

def Pre_DwqkvIdeal (m : (ℓ : Loc Cert.DwqkvIdeal.nD Cert.DwqkvIdeal.τ Cert.DwqkvIdeal.sig) → Buf (Elt Ideal) ℓ) : Prop :=
  True

def Pre_DwqkvReferenceIdeal (m : (ℓ : Loc Cert.DwqkvReferenceIdeal.nD Cert.DwqkvReferenceIdeal.τ Cert.DwqkvReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleReferenceIdeal (m : (ℓ : Loc Cert.ScaleReferenceIdeal.nD Cert.ScaleReferenceIdeal.τ Cert.ScaleReferenceIdeal.sig) → Buf (Elt Ideal) ℓ) : Prop :=
  True

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1)
      ∧ r.2.mem ((c.tc : Thread Cert.Dwo.nD Cert.Dwo.τ).loc Cert.Dwo.main_arg2) = m ((c.tc : Thread Cert.Dwo.nD Cert.Dwo.τ).loc Cert.Dwo.main_arg2))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
      ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1)
      ∧ r.2.mem ((c.tc : Thread Cert.DwoReferenceIdeal.nD Cert.DwoReferenceIdeal.τ).loc Cert.DwoReferenceIdeal.main_arg2) = m ((c.tc : Thread Cert.DwoReferenceIdeal.nD Cert.DwoReferenceIdeal.τ).loc Cert.DwoReferenceIdeal.main_arg2))
      ∧ r.2.sem = fun _ => 0)

def quiescent_Dwqkv [hDwqkv : Cert.Dwqkv.Facts] : Prop :=
  ∀ (m : (ℓ : Loc Cert.Dwqkv.nD Cert.Dwqkv.τ Cert.Dwqkv.sig) → Buf (Elt Bits) ℓ) (g : Dev Cert.Dwqkv.nD → PrngReg), Pre_Dwqkv m →
    θ_run (Cert.Dwqkv.defs (F := Bits)) (onTc (τ := Cert.Dwqkv.τ) (Cert.Dwqkv.main (F := Bits))) ⟨m, fun _ => 0, g⟩ (fun r => (∀ c : Dev Cert.Dwqkv.nD,
      r.2.mem ((c.tc : Thread Cert.Dwqkv.nD Cert.Dwqkv.τ).loc Cert.Dwqkv.main_arg0) = m ((c.tc : Thread Cert.Dwqkv.nD Cert.Dwqkv.τ).loc Cert.Dwqkv.main_arg0)
      ∧ r.2.mem ((c.tc : Thread Cert.Dwqkv.nD Cert.Dwqkv.τ).loc Cert.Dwqkv.main_arg1) = m ((c.tc : Thread Cert.Dwqkv.nD Cert.Dwqkv.τ).loc Cert.Dwqkv.main_arg1)
      ∧ r.2.mem ((c.tc : Thread Cert.Dwqkv.nD Cert.Dwqkv.τ).loc Cert.Dwqkv.main_arg2) = m ((c.tc : Thread Cert.Dwqkv.nD Cert.Dwqkv.τ).loc Cert.Dwqkv.main_arg2)
      ∧ r.2.mem ((c.tc : Thread Cert.Dwqkv.nD Cert.Dwqkv.τ).loc Cert.Dwqkv.main_arg3) = m ((c.tc : Thread Cert.Dwqkv.nD Cert.Dwqkv.τ).loc Cert.Dwqkv.main_arg3))
      ∧ r.2.sem = fun _ => 0)

def quiescent_DwqkvIdeal [hDwqkvIdeal : Cert.DwqkvIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg), Pre_DwqkvIdeal m →
    θ_run (Cert.DwqkvIdeal.defs (F := Ideal)) (onTc (τ := Cert.DwqkvIdeal.τ) (Cert.DwqkvIdeal.main (F := Ideal))) ⟨m, fun _ => 0, g⟩ (fun r => (∀ c : Dev Cert.DwqkvIdeal.nD,
      r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
      ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1)
      ∧ r.2.mem ((c.tc : Thread Cert.DwqkvIdeal.nD Cert.DwqkvIdeal.τ).loc Cert.DwqkvIdeal.main_arg2) = m ((c.tc : Thread Cert.DwqkvIdeal.nD Cert.DwqkvIdeal.τ).loc Cert.DwqkvIdeal.main_arg2)
      ∧ r.2.mem ((c.tc : Thread Cert.DwqkvIdeal.nD Cert.DwqkvIdeal.τ).loc Cert.DwqkvIdeal.main_arg3) = m ((c.tc : Thread Cert.DwqkvIdeal.nD Cert.DwqkvIdeal.τ).loc Cert.DwqkvIdeal.main_arg3))
      ∧ r.2.sem = fun _ => 0)

def quiescent_DwqkvReferenceIdeal [hDwqkvReferenceIdeal : Cert.DwqkvReferenceIdeal.Facts] : Prop :=
  ∀ (m : (ℓ : Loc Cert.DwqkvReferenceIdeal.nD Cert.DwqkvReferenceIdeal.τ Cert.DwqkvReferenceIdeal.sig) → Buf (Elt Ideal) ℓ) (g : Dev Cert.DwqkvReferenceIdeal.nD → PrngReg), Pre_DwqkvReferenceIdeal m →
    θ_run (Cert.DwqkvReferenceIdeal.defs (F := Ideal)) (onTc (τ := Cert.DwqkvReferenceIdeal.τ) (Cert.DwqkvReferenceIdeal.main (F := Ideal))) ⟨m, fun _ => 0, g⟩ (fun r => (∀ c : Dev Cert.DwqkvReferenceIdeal.nD,
      r.2.mem ((c.tc : Thread Cert.DwqkvReferenceIdeal.nD Cert.DwqkvReferenceIdeal.τ).loc Cert.DwqkvReferenceIdeal.main_arg0) = m ((c.tc : Thread Cert.DwqkvReferenceIdeal.nD Cert.DwqkvReferenceIdeal.τ).loc Cert.DwqkvReferenceIdeal.main_arg0)
      ∧ r.2.mem ((c.tc : Thread Cert.DwqkvReferenceIdeal.nD Cert.DwqkvReferenceIdeal.τ).loc Cert.DwqkvReferenceIdeal.main_arg1) = m ((c.tc : Thread Cert.DwqkvReferenceIdeal.nD Cert.DwqkvReferenceIdeal.τ).loc Cert.DwqkvReferenceIdeal.main_arg1)
      ∧ r.2.mem ((c.tc : Thread Cert.DwqkvReferenceIdeal.nD Cert.DwqkvReferenceIdeal.τ).loc Cert.DwqkvReferenceIdeal.main_arg2) = m ((c.tc : Thread Cert.DwqkvReferenceIdeal.nD Cert.DwqkvReferenceIdeal.τ).loc Cert.DwqkvReferenceIdeal.main_arg2)
      ∧ r.2.mem ((c.tc : Thread Cert.DwqkvReferenceIdeal.nD Cert.DwqkvReferenceIdeal.τ).loc Cert.DwqkvReferenceIdeal.main_arg3) = m ((c.tc : Thread Cert.DwqkvReferenceIdeal.nD Cert.DwqkvReferenceIdeal.τ).loc Cert.DwqkvReferenceIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6)
      ∧ r.2.mem ((c.tc : Thread Cert.DxReferenceIdeal.nD Cert.DxReferenceIdeal.τ).loc Cert.DxReferenceIdeal.main_arg7) = m ((c.tc : Thread Cert.DxReferenceIdeal.nD Cert.DxReferenceIdeal.τ).loc Cert.DxReferenceIdeal.main_arg7))
      ∧ r.2.sem = fun _ => 0)

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ r.2.sem = fun _ => 0)

def quiescent_ScaleReferenceIdeal [hScaleReferenceIdeal : Cert.ScaleReferenceIdeal.Facts] : Prop :=
  ∀ (m : (ℓ : Loc Cert.ScaleReferenceIdeal.nD Cert.ScaleReferenceIdeal.τ Cert.ScaleReferenceIdeal.sig) → Buf (Elt Ideal) ℓ) (g : Dev Cert.ScaleReferenceIdeal.nD → PrngReg), Pre_ScaleReferenceIdeal m →
    θ_run (Cert.ScaleReferenceIdeal.defs (F := Ideal)) (onTc (τ := Cert.ScaleReferenceIdeal.τ) (Cert.ScaleReferenceIdeal.main (F := Ideal))) ⟨m, fun _ => 0, g⟩ (fun r => (∀ c : Dev Cert.ScaleReferenceIdeal.nD,
      r.2.mem ((c.tc : Thread Cert.ScaleReferenceIdeal.nD Cert.ScaleReferenceIdeal.τ).loc Cert.ScaleReferenceIdeal.main_arg0) = m ((c.tc : Thread Cert.ScaleReferenceIdeal.nD Cert.ScaleReferenceIdeal.τ).loc Cert.ScaleReferenceIdeal.main_arg0))
      ∧ r.2.sem = fun _ => 0)

def preserves_Dwo_DwoIdeal : Prop :=
  True

def algebraic_DwoIdeal_DwoReferenceIdeal [hDwoIdeal : Cert.DwoIdeal.Facts] [hDwoReferenceIdeal : Cert.DwoReferenceIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoIdeal m →
    (∀ c : Dev Cert.DwoIdeal.nD,
      m' ((c.tc : Thread Cert.DwoReferenceIdeal.nD Cert.DwoReferenceIdeal.τ).loc Cert.DwoReferenceIdeal.main_arg0) = m ((c.tc : Thread Cert.DwoIdeal.nD Cert.DwoIdeal.τ).loc Cert.DwoIdeal.main_arg0)
      ∧ m' ((c.tc : Thread Cert.DwoReferenceIdeal.nD Cert.DwoReferenceIdeal.τ).loc Cert.DwoReferenceIdeal.main_arg1) = m ((c.tc : Thread Cert.DwoIdeal.nD Cert.DwoIdeal.τ).loc Cert.DwoIdeal.main_arg1)
      ∧ m' ((c.tc : Thread Cert.DwoReferenceIdeal.nD Cert.DwoReferenceIdeal.τ).loc Cert.DwoReferenceIdeal.main_arg2) = m ((c.tc : Thread Cert.DwoIdeal.nD Cert.DwoIdeal.τ).loc Cert.DwoIdeal.main_arg2)) →
    ∃ (v0 : (c : Dev Cert.DwoIdeal.nD) → Buf (Elt Ideal) ((c.tc : Thread Cert.DwoIdeal.nD Cert.DwoIdeal.τ).loc Cert.DwoIdeal.main_v1)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v1) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
          ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v1) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1)
          ∧ r.2.mem ((c.tc : Thread Cert.DwoReferenceIdeal.nD Cert.DwoReferenceIdeal.τ).loc Cert.DwoReferenceIdeal.main_arg2) = m' ((c.tc : Thread Cert.DwoReferenceIdeal.nD Cert.DwoReferenceIdeal.τ).loc Cert.DwoReferenceIdeal.main_arg2))

def preserves_Dwqkv_DwqkvIdeal : Prop :=
  True

def algebraic_DwqkvIdeal_DwqkvReferenceIdeal [hDwqkvIdeal : Cert.DwqkvIdeal.Facts] [hDwqkvReferenceIdeal : Cert.DwqkvReferenceIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg)
    (m' : (ℓ : Loc Cert.DwqkvReferenceIdeal.nD Cert.DwqkvReferenceIdeal.τ Cert.DwqkvReferenceIdeal.sig) → Buf (Elt Ideal) ℓ) (g' : Dev Cert.DwqkvReferenceIdeal.nD → PrngReg), Pre_DwqkvIdeal m →
    (∀ c : Dev Cert.DwqkvIdeal.nD,
      m' ((c.tc : Thread Cert.DwqkvReferenceIdeal.nD Cert.DwqkvReferenceIdeal.τ).loc Cert.DwqkvReferenceIdeal.main_arg0) = m ((c.tc : Thread Cert.DwqkvIdeal.nD Cert.DwqkvIdeal.τ).loc Cert.DwqkvIdeal.main_arg0)
      ∧ m' ((c.tc : Thread Cert.DwqkvReferenceIdeal.nD Cert.DwqkvReferenceIdeal.τ).loc Cert.DwqkvReferenceIdeal.main_arg1) = m ((c.tc : Thread Cert.DwqkvIdeal.nD Cert.DwqkvIdeal.τ).loc Cert.DwqkvIdeal.main_arg1)
      ∧ m' ((c.tc : Thread Cert.DwqkvReferenceIdeal.nD Cert.DwqkvReferenceIdeal.τ).loc Cert.DwqkvReferenceIdeal.main_arg2) = m ((c.tc : Thread Cert.DwqkvIdeal.nD Cert.DwqkvIdeal.τ).loc Cert.DwqkvIdeal.main_arg2)
      ∧ m' ((c.tc : Thread Cert.DwqkvReferenceIdeal.nD Cert.DwqkvReferenceIdeal.τ).loc Cert.DwqkvReferenceIdeal.main_arg3) = m ((c.tc : Thread Cert.DwqkvIdeal.nD Cert.DwqkvIdeal.τ).loc Cert.DwqkvIdeal.main_arg3)) →
    ∃ (v0 : (c : Dev Cert.DwqkvIdeal.nD) → Buf (Elt Ideal) ((c.tc : Thread Cert.DwqkvIdeal.nD Cert.DwqkvIdeal.τ).loc Cert.DwqkvIdeal.main_v1)),
      θ_run (Cert.DwqkvIdeal.defs (F := Ideal)) (onTc (τ := Cert.DwqkvIdeal.τ) (Cert.DwqkvIdeal.main (F := Ideal))) ⟨m, fun _ => 0, g⟩ (fun r => ∀ c : Dev Cert.DwqkvIdeal.nD,
          r.2.mem ((c.tc : Thread Cert.DwqkvIdeal.nD Cert.DwqkvIdeal.τ).loc Cert.DwqkvIdeal.main_v1) = v0 c
          ∧ r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
          ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1)
          ∧ r.2.mem ((c.tc : Thread Cert.DwqkvIdeal.nD Cert.DwqkvIdeal.τ).loc Cert.DwqkvIdeal.main_arg2) = m ((c.tc : Thread Cert.DwqkvIdeal.nD Cert.DwqkvIdeal.τ).loc Cert.DwqkvIdeal.main_arg2)
          ∧ r.2.mem ((c.tc : Thread Cert.DwqkvIdeal.nD Cert.DwqkvIdeal.τ).loc Cert.DwqkvIdeal.main_arg3) = m ((c.tc : Thread Cert.DwqkvIdeal.nD Cert.DwqkvIdeal.τ).loc Cert.DwqkvIdeal.main_arg3))
      ∧ θ_run (Cert.DwqkvReferenceIdeal.defs (F := Ideal)) (onTc (τ := Cert.DwqkvReferenceIdeal.τ) (Cert.DwqkvReferenceIdeal.main (F := Ideal))) ⟨m', fun _ => 0, g'⟩ (fun r => ∀ c : Dev Cert.DwqkvReferenceIdeal.nD,
          r.2.mem ((c.tc : Thread Cert.DwqkvReferenceIdeal.nD Cert.DwqkvReferenceIdeal.τ).loc Cert.DwqkvReferenceIdeal.main_v5) = v0 c
          ∧ r.2.mem ((c.tc : Thread Cert.DwqkvReferenceIdeal.nD Cert.DwqkvReferenceIdeal.τ).loc Cert.DwqkvReferenceIdeal.main_arg0) = m' ((c.tc : Thread Cert.DwqkvReferenceIdeal.nD Cert.DwqkvReferenceIdeal.τ).loc Cert.DwqkvReferenceIdeal.main_arg0)
          ∧ r.2.mem ((c.tc : Thread Cert.DwqkvReferenceIdeal.nD Cert.DwqkvReferenceIdeal.τ).loc Cert.DwqkvReferenceIdeal.main_arg1) = m' ((c.tc : Thread Cert.DwqkvReferenceIdeal.nD Cert.DwqkvReferenceIdeal.τ).loc Cert.DwqkvReferenceIdeal.main_arg1)
          ∧ r.2.mem ((c.tc : Thread Cert.DwqkvReferenceIdeal.nD Cert.DwqkvReferenceIdeal.τ).loc Cert.DwqkvReferenceIdeal.main_arg2) = m' ((c.tc : Thread Cert.DwqkvReferenceIdeal.nD Cert.DwqkvReferenceIdeal.τ).loc Cert.DwqkvReferenceIdeal.main_arg2)
          ∧ r.2.mem ((c.tc : Thread Cert.DwqkvReferenceIdeal.nD Cert.DwqkvReferenceIdeal.τ).loc Cert.DwqkvReferenceIdeal.main_arg3) = m' ((c.tc : Thread Cert.DwqkvReferenceIdeal.nD Cert.DwqkvReferenceIdeal.τ).loc Cert.DwqkvReferenceIdeal.main_arg3))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)
      ∧ m' ((c.tc : Thread Cert.DxReferenceIdeal.nD Cert.DxReferenceIdeal.τ).loc Cert.DxReferenceIdeal.main_arg6) = m ((c.tc : Thread Cert.DxIdeal.nD Cert.DxIdeal.τ).loc Cert.DxIdeal.main_arg6)
      ∧ m' ((c.tc : Thread Cert.DxReferenceIdeal.nD Cert.DxReferenceIdeal.τ).loc Cert.DxReferenceIdeal.main_arg7) = m ((c.tc : Thread Cert.DxIdeal.nD Cert.DxIdeal.τ).loc Cert.DxIdeal.main_arg7)) →
    ∃ (v0 : (c : Dev Cert.DxIdeal.nD) → Buf (Elt Ideal) ((c.tc : Thread Cert.DxIdeal.nD Cert.DxIdeal.τ).loc Cert.DxIdeal.main_v5_0)) (v1 : (c : Dev Cert.DxIdeal.nD) → Buf (Elt Ideal) ((c.tc : Thread Cert.DxIdeal.nD Cert.DxIdeal.τ).loc Cert.DxIdeal.main_v5_1)) (v2 : (c : Dev Cert.DxIdeal.nD) → Buf (Elt Ideal) ((c.tc : Thread Cert.DxIdeal.nD Cert.DxIdeal.τ).loc Cert.DxIdeal.main_v5_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v5_0) = v0 c
          ∧ r.2.mem ((c.tc : Thread Cert.DxIdeal.nD Cert.DxIdeal.τ).loc Cert.DxIdeal.main_v5_1) = v1 c
          ∧ r.2.mem ((c.tc : Thread Cert.DxIdeal.nD Cert.DxIdeal.τ).loc Cert.DxIdeal.main_v5_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v35) = v0 c
          ∧ r.2.mem ((c.tc : Thread Cert.DxReferenceIdeal.nD Cert.DxReferenceIdeal.τ).loc Cert.DxReferenceIdeal.main_v36) = v1 c
          ∧ r.2.mem ((c.tc : Thread Cert.DxReferenceIdeal.nD Cert.DxReferenceIdeal.τ).loc Cert.DxReferenceIdeal.main_v37) = v2 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6)
          ∧ r.2.mem ((c.tc : Thread Cert.DxReferenceIdeal.nD Cert.DxReferenceIdeal.τ).loc Cert.DxReferenceIdeal.main_arg7) = m' ((c.tc : Thread Cert.DxReferenceIdeal.nD Cert.DxReferenceIdeal.τ).loc Cert.DxReferenceIdeal.main_arg7))

def preserves_Scale_ScaleIdeal : Prop :=
  True

def algebraic_ScaleIdeal_ScaleReferenceIdeal [hScaleIdeal : Cert.ScaleIdeal.Facts] [hScaleReferenceIdeal : Cert.ScaleReferenceIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleReferenceIdeal.nD Cert.ScaleReferenceIdeal.τ Cert.ScaleReferenceIdeal.sig) → Buf (Elt Ideal) ℓ) (g' : Dev Cert.ScaleReferenceIdeal.nD → PrngReg), Pre_ScaleIdeal m →
    (∀ c : Dev Cert.ScaleIdeal.nD,
      m' ((c.tc : Thread Cert.ScaleReferenceIdeal.nD Cert.ScaleReferenceIdeal.τ).loc Cert.ScaleReferenceIdeal.main_arg0) = m ((c.tc : Thread Cert.ScaleIdeal.nD Cert.ScaleIdeal.τ).loc Cert.ScaleIdeal.main_arg0)) →
    ∃ (v0 : (c : Dev Cert.ScaleIdeal.nD) → Buf (Elt Ideal) ((c.tc : Thread Cert.ScaleIdeal.nD Cert.ScaleIdeal.τ).loc Cert.ScaleIdeal.main_v9)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v9) = v0 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ θ_run (Cert.ScaleReferenceIdeal.defs (F := Ideal)) (onTc (τ := Cert.ScaleReferenceIdeal.τ) (Cert.ScaleReferenceIdeal.main (F := Ideal))) ⟨m', fun _ => 0, g'⟩ (fun r => ∀ c : Dev Cert.ScaleReferenceIdeal.nD,
          r.2.mem ((c.tc : Thread Cert.ScaleReferenceIdeal.nD Cert.ScaleReferenceIdeal.τ).loc Cert.ScaleReferenceIdeal.main_v8) = v0 c
          ∧ r.2.mem ((c.tc : Thread Cert.ScaleReferenceIdeal.nD Cert.ScaleReferenceIdeal.τ).loc Cert.ScaleReferenceIdeal.main_arg0) = m' ((c.tc : Thread Cert.ScaleReferenceIdeal.nD Cert.ScaleReferenceIdeal.τ).loc Cert.ScaleReferenceIdeal.main_arg0))

def Claim : Prop :=
  ∃ (hDwo : Cert.Dwo.Facts) (hDwoIdeal : Cert.DwoIdeal.Facts) (hDwoReferenceIdeal : Cert.DwoReferenceIdeal.Facts) (hDwqkv : Cert.Dwqkv.Facts) (hDwqkvIdeal : Cert.DwqkvIdeal.Facts) (hDwqkvReferenceIdeal : Cert.DwqkvReferenceIdeal.Facts) (hDx : Cert.Dx.Facts) (hDxIdeal : Cert.DxIdeal.Facts) (hDxReferenceIdeal : Cert.DxReferenceIdeal.Facts) (hScale : Cert.Scale.Facts) (hScaleIdeal : Cert.ScaleIdeal.Facts) (hScaleReferenceIdeal : Cert.ScaleReferenceIdeal.Facts),
    quiescent_Dwo (hDwo := hDwo)
    ∧ quiescent_DwoIdeal (hDwoIdeal := hDwoIdeal)
    ∧ quiescent_DwoReferenceIdeal (hDwoReferenceIdeal := hDwoReferenceIdeal)
    ∧ quiescent_Dwqkv (hDwqkv := hDwqkv)
    ∧ quiescent_DwqkvIdeal (hDwqkvIdeal := hDwqkvIdeal)
    ∧ quiescent_DwqkvReferenceIdeal (hDwqkvReferenceIdeal := hDwqkvReferenceIdeal)
    ∧ quiescent_Dx (hDx := hDx)
    ∧ quiescent_DxIdeal (hDxIdeal := hDxIdeal)
    ∧ quiescent_DxReferenceIdeal (hDxReferenceIdeal := hDxReferenceIdeal)
    ∧ quiescent_Scale (hScale := hScale)
    ∧ quiescent_ScaleIdeal (hScaleIdeal := hScaleIdeal)
    ∧ quiescent_ScaleReferenceIdeal (hScaleReferenceIdeal := hScaleReferenceIdeal)
    ∧ preserves_Dwo_DwoIdeal
    ∧ algebraic_DwoIdeal_DwoReferenceIdeal (hDwoIdeal := hDwoIdeal) (hDwoReferenceIdeal := hDwoReferenceIdeal)
    ∧ preserves_Dwqkv_DwqkvIdeal
    ∧ algebraic_DwqkvIdeal_DwqkvReferenceIdeal (hDwqkvIdeal := hDwqkvIdeal) (hDwqkvReferenceIdeal := hDwqkvReferenceIdeal)
    ∧ preserves_Dx_DxIdeal
    ∧ algebraic_DxIdeal_DxReferenceIdeal (hDxIdeal := hDxIdeal) (hDxReferenceIdeal := hDxReferenceIdeal)
    ∧ preserves_Scale_ScaleIdeal
    ∧ algebraic_ScaleIdeal_ScaleReferenceIdeal (hScaleIdeal := hScaleIdeal) (hScaleReferenceIdeal := hScaleReferenceIdeal)
-- ==== Dwo.lean ====
abbrev S1 : Shape := ⟨1, ![1]⟩
abbrev S2x4096x28x128 : Shape := ⟨4, ![2, 4096, 28, 128]⟩
abbrev S8192x3584 : Shape := ⟨2, ![8192, 3584]⟩
abbrev S2x28x4096x128 : Shape := ⟨4, ![2, 28, 4096, 128]⟩
abbrev S3584x3584 : Shape := ⟨2, ![3584, 3584]⟩
abbrev S1x7x1024x128 : Shape := ⟨4, ![1, 7, 1024, 128]⟩
abbrev S1024x3584 : Shape := ⟨2, ![1024, 3584]⟩
abbrev S896x3584 : Shape := ⟨2, ![896, 3584]⟩
abbrev S1x1x1024x128 : Shape := ⟨4, ![1, 1, 1024, 128]⟩
abbrev S1024x128 : Shape := ⟨2, ![1024, 128]⟩
abbrev S1024x896 : Shape := ⟨2, ![1024, 896]⟩
abbrev S896x1024 : Shape := ⟨2, ![896, 1024]⟩
abbrev S896x512 : Shape := ⟨2, ![896, 512]⟩
abbrev S1024x512 : Shape := ⟨2, ![1024, 512]⟩

abbrev nBuf : Space → Nat
  | .hbm => 5
  | .vmem => 6
  | .smem => 1
  | _ => 0

abbrev bufTy : (tb : Table) → Fin (tcTables nBuf tb) → BufTy
  | .hbm, ⟨0, _⟩ => ⟨S1, .f32⟩
  | .hbm, ⟨1, _⟩ => ⟨S2x4096x28x128, .bf16⟩
  | .hbm, ⟨2, _⟩ => ⟨S8192x3584, .fp8e5m2⟩
  | .hbm, ⟨3, _⟩ => ⟨S2x28x4096x128, .bf16⟩
  | .hbm, ⟨4, _⟩ => ⟨S3584x3584, .f32⟩
  | .local _ .vmem, ⟨0, _⟩ => ⟨S1x7x1024x128, .bf16⟩
  | .local _ .vmem, ⟨1, _⟩ => ⟨S1x7x1024x128, .bf16⟩
  | .local _ .vmem, ⟨2, _⟩ => ⟨S1024x3584, .fp8e5m2⟩
  | .local _ .vmem, ⟨3, _⟩ => ⟨S1024x3584, .fp8e5m2⟩
  | .local _ .vmem, ⟨4, _⟩ => ⟨S896x3584, .f32⟩
  | .local _ .vmem, ⟨5, _⟩ => ⟨S896x3584, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x7x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x3584 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S896x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwoReferenceIdeal.lean ====
abbrev S1 : Shape := ⟨1, ![1]⟩
abbrev S2x4096x28x128 : Shape := ⟨4, ![2, 4096, 28, 128]⟩
abbrev S8192x3584 : Shape := ⟨2, ![8192, 3584]⟩
abbrev S3584x3584 : Shape := ⟨2, ![3584, 3584]⟩

abbrev nBuf : Space → Nat
  | .hbm => 5
  | .vmem => 3
  | .smem => 1
  | _ => 0

abbrev bufTy : (tb : Table) → Fin (tcTables nBuf tb) → BufTy
  | .hbm, ⟨0, _⟩ => ⟨S1, .f32⟩
  | .hbm, ⟨1, _⟩ => ⟨S2x4096x28x128, .bf16⟩
  | .hbm, ⟨2, _⟩ => ⟨S8192x3584, .fp8e5m2⟩
  | .hbm, ⟨3, _⟩ => ⟨S8192x3584, .bf16⟩
  | .hbm, ⟨4, _⟩ => ⟨S3584x3584, .f32⟩
  | .local _ .vmem, ⟨0, _⟩ => ⟨S8192x3584, .bf16⟩
  | .local _ .vmem, ⟨1, _⟩ => ⟨S8192x3584, .fp8e5m2⟩
  | .local _ .vmem, ⟨2, _⟩ => ⟨S3584x3584, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dwqkv.lean ====
abbrev S1 : Shape := ⟨1, ![1]⟩
abbrev S2x4096x3584 : Shape := ⟨3, ![2, 4096, 3584]⟩
abbrev S2x36x4096x128 : Shape := ⟨4, ![2, 36, 4096, 128]⟩
abbrev S8192x3584 : Shape := ⟨2, ![8192, 3584]⟩
abbrev S36x3584x128 : Shape := ⟨3, ![36, 3584, 128]⟩
abbrev S1024x3584 : Shape := ⟨2, ![1024, 3584]⟩
abbrev S1x6x1024x128 : Shape := ⟨4, ![1, 6, 1024, 128]⟩
abbrev S6x3584x128 : Shape := ⟨3, ![6, 3584, 128]⟩
abbrev S1x1x1024x128 : Shape := ⟨4, ![1, 1, 1024, 128]⟩
abbrev S1024x128 : Shape := ⟨2, ![1024, 128]⟩
abbrev S1024x768 : Shape := ⟨2, ![1024, 768]⟩
abbrev S1024x256 : Shape := ⟨2, ![1024, 256]⟩
abbrev S256x768 : Shape := ⟨2, ![256, 768]⟩
abbrev S1x256x128 : Shape := ⟨3, ![1, 256, 128]⟩
abbrev S256x128 : Shape := ⟨2, ![256, 128]⟩

abbrev nBuf : Space → Nat
  | .hbm => 6
  | .vmem => 6
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S2x4096x3584, .fp8e4m3⟩
  | .hbm, ⟨3, _⟩ => ⟨S2x36x4096x128, .fp8e5m2⟩
  | .hbm, ⟨4, _⟩ => ⟨S8192x3584, .fp8e4m3⟩
  | .hbm, ⟨5, _⟩ => ⟨S36x3584x128, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1x6x1024x128, .fp8e5m2⟩
  | .local _ .vmem, ⟨3, _⟩ => ⟨S1x6x1024x128, .fp8e5m2⟩
  | .local _ .vmem, ⟨4, _⟩ => ⟨S6x3584x128, .f32⟩
  | .local _ .vmem, ⟨5, _⟩ => ⟨S6x3584x128, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x6x1024x128 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x3584x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwqkvReferenceIdeal.lean ====
abbrev S1 : Shape := ⟨1, ![1]⟩
abbrev S2x4096x3584 : Shape := ⟨3, ![2, 4096, 3584]⟩
abbrev S2x36x4096x128 : Shape := ⟨4, ![2, 36, 4096, 128]⟩
abbrev S8192x3584 : Shape := ⟨2, ![8192, 3584]⟩
abbrev S2x4096x36x128 : Shape := ⟨4, ![2, 4096, 36, 128]⟩
abbrev S8192x4608 : Shape := ⟨2, ![8192, 4608]⟩
abbrev S3584x4608 : Shape := ⟨2, ![3584, 4608]⟩
abbrev S3584x36x128 : Shape := ⟨3, ![3584, 36, 128]⟩
abbrev S36x3584x128 : Shape := ⟨3, ![36, 3584, 128]⟩

abbrev nBuf : Space → Nat
  | .hbm => 10
  | .vmem => 3
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S2x4096x3584, .fp8e4m3⟩
  | .hbm, ⟨3, _⟩ => ⟨S2x36x4096x128, .fp8e5m2⟩
  | .hbm, ⟨4, _⟩ => ⟨S8192x3584, .fp8e4m3⟩
  | .hbm, ⟨5, _⟩ => ⟨S2x4096x36x128, .fp8e5m2⟩
  | .hbm, ⟨6, _⟩ => ⟨S8192x4608, .fp8e5m2⟩
  | .hbm, ⟨7, _⟩ => ⟨S3584x4608, .f32⟩
  | .hbm, ⟨8, _⟩ => ⟨S3584x36x128, .f32⟩
  | .hbm, ⟨9, _⟩ => ⟨S36x3584x128, .f32⟩
  | .local _ .vmem, ⟨0, _⟩ => ⟨S8192x3584, .fp8e4m3⟩
  | .local _ .vmem, ⟨1, _⟩ => ⟨S8192x4608, .fp8e5m2⟩
  | .local _ .vmem, ⟨2, _⟩ => ⟨S3584x4608, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4608 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dx.lean ====
abbrev S1 : Shape := ⟨1, ![1]⟩
abbrev S2x36x4096x128 : Shape := ⟨4, ![2, 36, 4096, 128]⟩
abbrev S3584x36x128 : Shape := ⟨3, ![3584, 36, 128]⟩
abbrev S2x4096x3584 : Shape := ⟨3, ![2, 4096, 3584]⟩
abbrev S2x4096 : Shape := ⟨2, ![2, 4096]⟩
abbrev S3584 : Shape := ⟨1, ![3584]⟩
abbrev S8192x3584 : Shape := ⟨2, ![8192, 3584]⟩
abbrev S36x3584x128 : Shape := ⟨3, ![36, 3584, 128]⟩
abbrev S32x1x256 : Shape := ⟨3, ![32, 1, 256]⟩
abbrev S1x3584 : Shape := ⟨2, ![1, 3584]⟩
abbrev S1x36x256x128 : Shape := ⟨4, ![1, 36, 256, 128]⟩
abbrev S256x3584 : Shape := ⟨2, ![256, 3584]⟩
abbrev S1x1x256 : Shape := ⟨3, ![1, 1, 256]⟩
abbrev S1x1x256x128 : Shape := ⟨4, ![1, 1, 256, 128]⟩
abbrev S256x128 : Shape := ⟨2, ![256, 128]⟩
abbrev S256x4608 : Shape := ⟨2, ![256, 4608]⟩
abbrev S256 : Shape := ⟨1, ![256]⟩
abbrev S1x256 : Shape := ⟨2, ![1, 256]⟩
abbrev S256x1 : Shape := ⟨2, ![256, 1]⟩
abbrev S1x512x128 : Shape := ⟨3, ![1, 512, 128]⟩
abbrev S512x128 : Shape := ⟨2, ![512, 128]⟩
abbrev S512x4608 : Shape := ⟨2, ![512, 4608]⟩
abbrev S256x512 : Shape := ⟨2, ![256, 512]⟩
abbrev S1x512 : Shape := ⟨2, ![1, 512]⟩
abbrev S512 : Shape := ⟨1, ![512]⟩

abbrev nBuf : Space → Nat
  | .hbm => 16
  | .vmem => 16
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S2x36x4096x128, .fp8e5m2⟩
  | .hbm, ⟨3, _⟩ => ⟨S3584x36x128, .fp8e4m3⟩
  | .hbm, ⟨4, _⟩ => ⟨S2x4096x3584, .bf16⟩
  | .hbm, ⟨5, _⟩ => ⟨S2x4096x3584, .bf16⟩
  | .hbm, ⟨6, _⟩ => ⟨S2x4096, .f32⟩
  | .hbm, ⟨7, _⟩ => ⟨S3584, .f32⟩
  | .hbm, ⟨8, _⟩ => ⟨S8192x3584, .bf16⟩
  | .hbm, ⟨9, _⟩ => ⟨S8192x3584, .bf16⟩
  | .hbm, ⟨10, _⟩ => ⟨S36x3584x128, .fp8e4m3⟩
  | .hbm, ⟨11, _⟩ => ⟨S32x1x256, .f32⟩
  | .hbm, ⟨12, _⟩ => ⟨S1x3584, .f32⟩
  | .hbm, ⟨13, _⟩ => ⟨S8192x3584, .bf16⟩
  | .hbm, ⟨14, _⟩ => ⟨S1x3584, .f32⟩
  | .hbm, ⟨15, _⟩ => ⟨S32x1x256, .f32⟩
  | .local _ .vmem, ⟨0, _⟩ => ⟨S1x36x256x128, .fp8e5m2⟩
  | .local _ .vmem, ⟨1, _⟩ => ⟨S1x36x256x128, .fp8e5m2⟩
  | .local _ .vmem, ⟨2, _⟩ => ⟨S36x3584x128, .fp8e4m3⟩
  | .local _ .vmem, ⟨3, _⟩ => ⟨S256x3584, .bf16⟩
  | .local _ .vmem, ⟨4, _⟩ => ⟨S256x3584, .bf16⟩
  | .local _ .vmem, ⟨5, _⟩ => ⟨S256x3584, .bf16⟩
  | .local _ .vmem, ⟨6, _⟩ => ⟨S256x3584, .bf16⟩
  | .local _ .vmem, ⟨7, _⟩ => ⟨S1x1x256, .f32⟩
  | .local _ .vmem, ⟨8, _⟩ => ⟨S1x1x256, .f32⟩
  | .local _ .vmem, ⟨9, _⟩ => ⟨S1x3584, .f32⟩
  | .local _ .vmem, ⟨10, _⟩ => ⟨S256x3584, .bf16⟩
  | .local _ .vmem, ⟨11, _⟩ => ⟨S256x3584, .bf16⟩
  | .local _ .vmem, ⟨12, _⟩ => ⟨S1x3584, .f32⟩
  | .local _ .vmem, ⟨13, _⟩ => ⟨S1x1x256, .f32⟩
  | .local _ .vmem, ⟨14, _⟩ => ⟨S1x1x256, .f32⟩
  | .local _ .vmem, ⟨15, _⟩ => ⟨S256x3584, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x36x256x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S36x3584x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DxReferenceIdeal.lean ====
abbrev S1 : Shape := ⟨1, ![1]⟩
abbrev S2x36x4096x128 : Shape := ⟨4, ![2, 36, 4096, 128]⟩
abbrev S3584x36x128 : Shape := ⟨3, ![3584, 36, 128]⟩
abbrev S2x4096x3584 : Shape := ⟨3, ![2, 4096, 3584]⟩
abbrev S2x4096 : Shape := ⟨2, ![2, 4096]⟩
abbrev S3584 : Shape := ⟨1, ![3584]⟩
abbrev S2x4096x36x128 : Shape := ⟨4, ![2, 4096, 36, 128]⟩
abbrev S8192x4608 : Shape := ⟨2, ![8192, 4608]⟩
abbrev S3584x4608 : Shape := ⟨2, ![3584, 4608]⟩
abbrev S8192x3584 : Shape := ⟨2, ![8192, 3584]⟩
abbrev S2x4096x1 : Shape := ⟨3, ![2, 4096, 1]⟩
abbrev S_ : Shape := ⟨0, ![]⟩
abbrev S1x1x3584 : Shape := ⟨3, ![1, 1, 3584]⟩
abbrev S1x3584 : Shape := ⟨2, ![1, 3584]⟩
abbrev S32x1x256 : Shape := ⟨3, ![32, 1, 256]⟩

abbrev nBuf : Space → Nat
  | .hbm => 49
  | .vmem => 3
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S2x36x4096x128, .fp8e5m2⟩
  | .hbm, ⟨3, _⟩ => ⟨S3584x36x128, .fp8e4m3⟩
  | .hbm, ⟨4, _⟩ => ⟨S2x4096x3584, .bf16⟩
  | .hbm, ⟨5, _⟩ => ⟨S2x4096x3584, .bf16⟩
  | .hbm, ⟨6, _⟩ => ⟨S2x4096, .f32⟩
  | .hbm, ⟨7, _⟩ => ⟨S3584, .f32⟩
  | .hbm, ⟨8, _⟩ => ⟨S2x4096x36x128, .fp8e5m2⟩
  | .hbm, ⟨9, _⟩ => ⟨S8192x4608, .fp8e5m2⟩
  | .hbm, ⟨10, _⟩ => ⟨S3584x4608, .fp8e4m3⟩
  | .hbm, ⟨11, _⟩ => ⟨S8192x3584, .f32⟩
  | .hbm, ⟨12, _⟩ => ⟨S2x4096x3584, .f32⟩
  | .hbm, ⟨13, _⟩ => ⟨S2x4096x3584, .f32⟩
  | .hbm, ⟨14, _⟩ => ⟨S2x4096x1, .f32⟩
  | .hbm, ⟨15, _⟩ => ⟨S2x4096x3584, .f32⟩
  | .hbm, ⟨16, _⟩ => ⟨S2x4096x3584, .f32⟩
  | .hbm, ⟨17, _⟩ => ⟨S2x4096x3584, .f32⟩
  | .hbm, ⟨18, _⟩ => ⟨S_, .f32⟩
  | .hbm, ⟨19, _⟩ => ⟨S3584, .f32⟩
  | .hbm, ⟨20, _⟩ => ⟨S1x1x3584, .f32⟩
  | .hbm, ⟨21, _⟩ => ⟨S2x4096x3584, .f32⟩
  | .hbm, ⟨22, _⟩ => ⟨S2x4096x3584, .f32⟩
  | .hbm, ⟨23, _⟩ => ⟨S2x4096x3584, .f32⟩
  | .hbm, ⟨24, _⟩ => ⟨S_, .f32⟩
  | .hbm, ⟨25, _⟩ => ⟨S2x4096, .f32⟩
  | .hbm, ⟨26, _⟩ => ⟨S_, .f32⟩
  | .hbm, ⟨27, _⟩ => ⟨S2x4096, .f32⟩
  | .hbm, ⟨28, _⟩ => ⟨S2x4096, .f32⟩
  | .hbm, ⟨29, _⟩ => ⟨S2x4096, .f32⟩
  | .hbm, ⟨30, _⟩ => ⟨S1x1x3584, .f32⟩
  | .hbm, ⟨31, _⟩ => ⟨S2x4096x3584, .f32⟩
  | .hbm, ⟨32, _⟩ => ⟨S2x4096x3584, .f32⟩
  | .hbm, ⟨33, _⟩ => ⟨S2x4096x3584, .f32⟩
  | .hbm, ⟨34, _⟩ => ⟨S2x4096x3584, .f32⟩
  | .hbm, ⟨35, _⟩ => ⟨S2x4096x3584, .f32⟩
  | .hbm, ⟨36, _⟩ => ⟨S2x4096x3584, .f32⟩
  | .hbm, ⟨37, _⟩ => ⟨S2x4096x3584, .f32⟩
  | .hbm, ⟨38, _⟩ => ⟨S2x4096x3584, .f32⟩
  | .hbm, ⟨39, _⟩ => ⟨S2x4096x1, .f32⟩
  | .hbm, ⟨40, _⟩ => ⟨S2x4096x3584, .f32⟩
  | .hbm, ⟨41, _⟩ => ⟨S2x4096x3584, .f32⟩
  | .hbm, ⟨42, _⟩ => ⟨S2x4096x3584, .f32⟩
  | .hbm, ⟨43, _⟩ => ⟨S2x4096x3584, .f32⟩
  | .hbm, ⟨44, _⟩ => ⟨S2x4096x3584, .f32⟩
  | .hbm, ⟨45, _⟩ => ⟨S2x4096x3584, .bf16⟩
  | .hbm, ⟨46, _⟩ => ⟨S8192x3584, .bf16⟩
  | .hbm, ⟨47, _⟩ => ⟨S1x3584, .f32⟩
  | .hbm, ⟨48, _⟩ => ⟨S32x1x256, .f32⟩
  | .local _ .vmem, ⟨0, _⟩ => ⟨S8192x4608, .fp8e5m2⟩
  | .local _ .vmem, ⟨1, _⟩ => ⟨S3584x4608, .fp8e4m3⟩
  | .local _ .vmem, ⟨2, _⟩ => ⟨S8192x3584, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4608 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Scale.lean ====
abbrev S2x4096x3584 : Shape := ⟨3, ![2, 4096, 3584]⟩
abbrev S8192x3584 : Shape := ⟨2, ![8192, 3584]⟩
abbrev S16x3584 : Shape := ⟨2, ![16, 3584]⟩
abbrev S512x3584 : Shape := ⟨2, ![512, 3584]⟩
abbrev S32x16x3584 : Shape := ⟨3, ![32, 16, 3584]⟩
abbrev S_ : Shape := ⟨0, ![]⟩
abbrev S1 : Shape := ⟨1, ![1]⟩

abbrev nBuf : Space → Nat
  | .hbm => 17
  | .vmem => 3
  | .smem => 0
  | _ => 0

abbrev bufTy : (tb : Table) → Fin (tcTables nBuf tb) → BufTy
  | .hbm, ⟨0, _⟩ => ⟨S2x4096x3584, .bf16⟩
  | .hbm, ⟨1, _⟩ => ⟨S8192x3584, .bf16⟩
  | .hbm, ⟨2, _⟩ => ⟨S16x3584, .bf16⟩
  | .hbm, ⟨3, _⟩ => ⟨S_, .bf16⟩
  | .hbm, ⟨4, _⟩ => ⟨S_, .bf16⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .i1⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .local _ .vmem, ⟨0, _⟩ => ⟨S512x3584, .bf16⟩
  | .local _ .vmem, ⟨1, _⟩ => ⟨S512x3584, .bf16⟩
  | .local _ .vmem, ⟨2, _⟩ => ⟨S16x3584, .bf16⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_1 : BitVec 32 := 0#32
  let v7 : BitVec 1 := Scalar.cmpi .ne v6 c0_i32_1
  v7

def k0_cond2 (i : grid0.Coords) : BitVec 1 :=
  let arg0 : BitVec 32 := BitVec.ofNat 32 (i 0).val
  let c0_i32_2 : BitVec 32 := 0#32
  let v8 : BitVec 1 := Scalar.cmpi .ne arg0 c0_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ScaleReferenceIdeal.lean ====
abbrev S2x4096x3584 : Shape := ⟨3, ![2, 4096, 3584]⟩
abbrev S_ : Shape := ⟨0, ![]⟩
abbrev S1 : Shape := ⟨1, ![1]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x3584, .bf16⟩
  | .hbm, ⟨1, _⟩ => ⟨S2x4096x3584, .f32⟩
  | .hbm, ⟨2, _⟩ => ⟨S2x4096x3584, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .i1⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | _, _ => ⟨S2x4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Acc.lean ====
module

public import Idealize.ShloMosaic.Lib.Pipeline.ValueKit
public import Idealize.ShloMosaic.Lib.Pipeline.ReadBack

/-! An accumulator that is reset at the first point of every run of `J` grid points, added into at the others and
    multiplied by a factor at the run's last point holds, at that last point, the sum of the run's terms times the
    factor. -/

@[expose] public section

namespace Cert.Acc

open Idealize.ShloMosaic

/-- A quantity `f` over the points of a grid is set to `term` where `t % J = 0`, grows by `term` at the other points
    before the run's last, and at the run's last point (`t % J = J - 1`) is what the point before left, plus `term`,
    times `s`. Then at a last point it is the sum of the terms of the run's `J` points, times `s`. -/
theorem sum_mul_of_last {N : ℕ} {ι : Type} (f : (n : ℕ) → n < N → ι → EReal) (J : ℕ) [NeZero J] (hJ : 1 < J)
    (term : Fin N → ι → EReal) (s : Fin N → ι → EReal)
    (h0 : ∀ t : Fin N, t.val % J = 0 → ∀ i, f t.val t.isLt i = term t i)
    (hs : ∀ t : Fin N, ¬t.val % J = 0 → ¬t.val % J = J - 1 → ∀ i,
      f t.val t.isLt i = f (t.val - 1) (Nat.lt_of_le_of_lt (Nat.sub_le _ _) t.isLt) i + term t i)
    (hl : ∀ t : Fin N, t.val % J = J - 1 → ∀ i,
      f t.val t.isLt i = (f (t.val - 1) (Nat.lt_of_le_of_lt (Nat.sub_le _ _) t.isLt) i + term t i) * s t i)
    (t : Fin N) (ht : t.val % J = J - 1) (i : ι) :
    f t.val t.isLt i
      = (∑ k : Fin J, term ⟨J * (t.val / J) + k.val, Pipeline.run_point_lt_of_flush t ht k⟩ i) * s t i := by
  classical
  let g : (n : ℕ) → n < N → ι → EReal := fun n h i =>
    if n % J = J - 1 then f (n - 1) (Nat.lt_of_le_of_lt (Nat.sub_le _ _) h) i + term ⟨n, h⟩ i else f n h i
  have hg : ∀ u : Fin N, ¬u.val % J = 0 → ∀ i,
      g (u.val - 1) (Nat.lt_of_le_of_lt (Nat.sub_le _ _) u.isLt) i
        = f (u.val - 1) (Nat.lt_of_le_of_lt (Nat.sub_le _ _) u.isLt) i := by
    intro u hu i
    have hne : ¬(u.val - 1) % J = J - 1 := by
      have h1 := Nat.div_add_mod u.val J
      have h2 := Nat.mod_lt u.val (show 0 < J by omega)
      have h3 : u.val - 1 = J * (u.val / J) + (u.val % J - 1) := by omega
      rw [h3, Nat.mul_add_mod, Nat.mod_eq_of_lt (by omega)]
      omega
    simp only [g, if_neg hne]
  have key := Pipeline.eq_sum_fin_of_reset_step_apply_of_flush g J (fun _ => (0 : EReal)) term
    (fun u h i => by
      have hne : ¬u.val % J = J - 1 := by omega
      simp only [g, if_neg hne, zero_add]
      exact h0 u h i)
    (fun u h i => by
      rw [hg u h i]
      by_cases hc : u.val % J = J - 1
      · simp only [g, if_pos hc]
      · simp only [g, if_neg hc]
        exact hs u h hc i)
    t ht i
  have hgt : g t.val t.isLt i
      = f (t.val - 1) (Nat.lt_of_le_of_lt (Nat.sub_le _ _) t.isLt) i + term t i := by
    simp only [g, if_pos ht]
  rw [hl t ht i, ← hgt, key, zero_add]

/-- Stores over an earlier one (the list's last): at an index that one of the later stores covers, the earlier store is
    not seen. -/
theorem canon_dropLast {s : Shape} {e : EltTy} {Val : EltTy → Type} [∀ e, Nonempty (Val e)]
    (L : List (View.Piece Val s e)) (y : s.Idx) (h : ∃ p ∈ L.dropLast, y ∈ p.1.set) :
    View.canon L y = View.canon L.dropLast y := by
  induction L with
  | nil => rfl
  | cons p L ih =>
    cases L with
    | nil => obtain ⟨_, hm, _⟩ := h; exact absurd hm List.not_mem_nil
    | cons q L =>
      by_cases hy : y ∈ p.1.set
      · obtain ⟨r, w⟩ := p
        obtain ⟨x, rfl⟩ := r.exists_idx_of_mem hy
        exact (View.canon_cons_emb r w (q :: L) x).trans (View.canon_cons_emb r w (q :: L).dropLast x).symm
      · rw [View.canon_cons_of_not_mem _ _ hy, List.dropLast_cons₂, View.canon_cons_of_not_mem _ _ hy]
        refine ih ?_
        obtain ⟨p', hm, hy'⟩ := h
        rw [List.dropLast_cons₂] at hm
        rcases List.mem_cons.mp hm with rfl | hm
        · exact absurd hy' hy
        · exact ⟨p', hm, hy'⟩

end Cert.Acc
-- ==== Proof.DwoStep.lean ====
module

public import proofs.«01_k».proof.Proof.Gen.DwoIdeal.Frame
public import proofs.«01_k».proof.Proof.Acc

@[expose] public section

set_option maxRecDepth 16384

noncomputable section

open Idealize.ShloMosaic Idealize.ShloMosaic.TcCoe Idealize.SL.Sem
open Idealize.ShloMosaic.Pipeline (Dat)

namespace Cert.DwoIdeal.Value

open Cert.DwoIdeal Cert.DwoIdeal.Gen

variable (m : (ℓ : Loc nD τ sig) → Buf (Elt Ideal) ℓ)

/-- The seven heads of one block, side by side and transposed: row `r` is head `r / 128`, lane `r % 128`. -/
theorem lhs_at (B : Vec Ideal S1x7x1024x128 .bf16) (r : Fin 896) (k : Fin 1024) :
    k0_pay6 (F := Ideal)
      (View.ld B (Rect.unit ![0, 0, 0, 0] ![1, 1, 1024, 128] inb_S1x7x1024x128_S1x1x1024x128_0_0_0_0))
      (View.ld B (Rect.unit ![0, 1, 0, 0] ![1, 1, 1024, 128] inb_S1x7x1024x128_S1x1x1024x128_0_1_0_0))
      (View.ld B (Rect.unit ![0, 2, 0, 0] ![1, 1, 1024, 128] inb_S1x7x1024x128_S1x1x1024x128_0_2_0_0))
      (View.ld B (Rect.unit ![0, 3, 0, 0] ![1, 1, 1024, 128] inb_S1x7x1024x128_S1x1x1024x128_0_3_0_0))
      (View.ld B (Rect.unit ![0, 4, 0, 0] ![1, 1, 1024, 128] inb_S1x7x1024x128_S1x1x1024x128_0_4_0_0))
      (View.ld B (Rect.unit ![0, 5, 0, 0] ![1, 1, 1024, 128] inb_S1x7x1024x128_S1x1x1024x128_0_5_0_0))
      (View.ld B (Rect.unit ![0, 6, 0, 0] ![1, 1, 1024, 128] inb_S1x7x1024x128_S1x1x1024x128_0_6_0_0)) (ix2 r k)
      = B (ix4 0 ⟨r.val / 128, by omega⟩ k ⟨r.val % 128, by omega⟩) := by
  pointwise [k0_pay6]
  blk_point []

/-- The same as a function of the index. -/
theorem lhs_fun (B : Vec Ideal S1x7x1024x128 .bf16) :
    k0_pay6 (F := Ideal)
      (View.ld B (Rect.unit ![0, 0, 0, 0] ![1, 1, 1024, 128] inb_S1x7x1024x128_S1x1x1024x128_0_0_0_0))
      (View.ld B (Rect.unit ![0, 1, 0, 0] ![1, 1, 1024, 128] inb_S1x7x1024x128_S1x1x1024x128_0_1_0_0))
      (View.ld B (Rect.unit ![0, 2, 0, 0] ![1, 1, 1024, 128] inb_S1x7x1024x128_S1x1x1024x128_0_2_0_0))
      (View.ld B (Rect.unit ![0, 3, 0, 0] ![1, 1, 1024, 128] inb_S1x7x1024x128_S1x1x1024x128_0_3_0_0))
      (View.ld B (Rect.unit ![0, 4, 0, 0] ![1, 1, 1024, 128] inb_S1x7x1024x128_S1x1x1024x128_0_4_0_0))
      (View.ld B (Rect.unit ![0, 5, 0, 0] ![1, 1, 1024, 128] inb_S1x7x1024x128_S1x1x1024x128_0_5_0_0))
      (View.ld B (Rect.unit ![0, 6, 0, 0] ![1, 1, 1024, 128] inb_S1x7x1024x128_S1x1x1024x128_0_6_0_0))
      = fun i : S896x1024.Idx => B (ix4 0 ⟨(i 0 : ℕ) / 128, by idx_bounds; omega⟩ (i 1) ⟨(i 0 : ℕ) % 128, by omega⟩) := by
  funext i
  idx_vars i
  exact lhs_at B _ _

/-- One grid point's part of the block: the product of the point's 1024 rows of the left operand, transposed, with the
    same rows of the right operand. -/
def part (x1 : FVec Ideal S1x7x1024x128 .bf16) (x2 : FVec Ideal S1024x3584 .fp8e5m2) (y : S896x3584.Idx) : EReal :=
  ∑ k : Fin 1024, x1 (ix4 0 ⟨(y 0 : ℕ) / 128, by idx_bounds; omega⟩ k ⟨(y 0 : ℕ) % 128, by omega⟩) * x2 (ix2 k (y 1))

/-- A middle point of a run adds its part to the block. -/
theorem stepB (c : Dev nD) (t : Fin cfg0.N) (h0 : ¬t.val % 8 = 0) (h1 : ¬t.val % 8 = 7) (y : S896x3584.Idx) :
    outsAt0 m c t.val t.isLt y = outsAt0 m c (t.val - 1) (Nat.lt_of_le_of_lt (Nat.sub_le _ _) t.isLt) y + part (iblk m c 1 t) (iblk m c 2 t) y := by
  rw [outsAt0_B m c t h0 h1]
  frame_out
  have hL := lhs_fun (iblk m c 1 t)
  generalize k0_pay6 _ _ _ _ _ _ _ = L at hL ⊢
  generalize outsAt0 m c (t.val - 1) _ = A
  clear h0 h1
  unfold part
  canon_tiles x h
  all_goals
    subst hL
    open_payloads
    pointwise
    blk_point []

/-- The first point of a run leaves its part: the block is cleared before the part is added. -/
theorem stepA (c : Dev nD) (t : Fin cfg0.N) (h0 : t.val % 8 = 0) (h1 : ¬t.val % 8 = 7) (y : S896x3584.Idx) :
    outsAt0 m c t.val t.isLt y = part (iblk m c 1 t) (iblk m c 2 t) y := by
  rw [outsAt0_A m c t h0 h1]
  frame_open
  simp (disch := decide) only [View.read_writes_junk_eq_canon, ↓View.readCov_skip, ↓View.readCov_fill, View.readAt_eq_ld, Memref.IsWhole.read_unread]
  have hL := lhs_fun (iblk m c 1 t)
  generalize k0_pay6 _ _ _ _ _ _ _ = L at hL ⊢
  clear h0 h1
  rw [Cert.Acc.canon_dropLast _ y ?cover]
  case cover =>
    dsimp only [List.dropLast]
    exact View.cover_of_tiled_head _ _ _ (by rfl) y
  dsimp only [List.dropLast]
  unfold part
  canon_tiles x h
  all_goals
    subst hL
    open_payloads
    pointwise [k0_pay5]
    blk_point []

set_option maxHeartbeats 1600000 in
/-- The last point of a run adds its part and multiplies the block by the scale. -/
theorem stepC (c : Dev nD) (t : Fin cfg0.N) (h0 : ¬t.val % 8 = 0) (h1 : t.val % 8 = 7) (y : S896x3584.Idx) :
    outsAt0 m c t.val t.isLt y = (outsAt0 m c (t.val - 1) (Nat.lt_of_le_of_lt (Nat.sub_le _ _) t.isLt) y + part (iblk m c 1 t) (iblk m c 2 t) y) * iblk m c 0 t (ix1 0) := by
  rw [outsAt0_C m c t h0 h1]
  frame_out [View.readCov_eq_canon']
  have hL := lhs_fun (iblk m c 1 t)
  generalize k0_pay6 _ _ _ _ _ _ _ = L at hL ⊢
  generalize outsAt0 m c (t.val - 1) _ = A
  clear h0 h1
  unfold part
  pointwise [k0_pay4]
  refine congrArg (fun z : EReal => z * (iblk m c 0 t (ix1 0) : EReal)) ?_
  canon_tiles x h
  all_goals
    subst hL
    open_payloads
    pointwise
    blk_point []

end Cert.DwoIdeal.Value

end

end
-- ==== Proof.DwoValue.lean ====
module

public import proofs.«01_k».proof.Proof.Gen.DwoIdeal.Frame
public import proofs.«01_k».proof.Proof.Gen.DwoReferenceIdeal.Frame
public import proofs.«01_k».proof.Proof.DwoStep

@[expose] public section

set_option maxRecDepth 16384

noncomputable section

open Idealize.ShloMosaic Idealize.ShloMosaic.TcCoe Idealize.SL.Sem
open Idealize.ShloMosaic.Pipeline (Dat)

namespace Cert.DwoIdeal.Value

open Cert.DwoIdeal Cert.DwoIdeal.Gen

variable (m : (ℓ : Loc nD τ sig) → Buf (Elt Ideal) ℓ)

/-- The windows' block indices at each grid point. -/
theorem idx : ∀ t : Fin cfg0.N, win0_0.index t = ![0] ∧ win0_1.index t = ![t.val % 8 / 4, t.val / 8, t.val % 8 % 4, 0]
    ∧ win0_2.index t = ![t.val % 8, 0] ∧ win0_3.index t = ![t.val / 8, 0] ∧ t.val < 32 :=
  (by decide +kernel : ∀ t : Fin grid0.N, _)

/-- The transposed left operand (rows: batch and position, columns: head and lane) times the right operand, times the
    scale. -/
def G (x0 : FVec Ideal S1 .f32) (x1 : FVec Ideal S2x4096x28x128 .bf16) (x2 : FVec Ideal S8192x3584 .fp8e5m2) :
    FVec Ideal S3584x3584 .f32 := fun y =>
  (∑ l : Fin 8192, x1 (ix4 ⟨l.val / 4096, by omega⟩ ⟨l.val % 4096, by omega⟩ ⟨(y 0 : ℕ) / 128, by idx_bounds; omega⟩ ⟨(y 0 : ℕ) % 128, by omega⟩)
    * x2 (ix2 l (y 1))) * x0 (ix1 0)

/-- The result array after the run. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Cert.Acc.sum_mul_of_last (fun n h => outsAt0 m c n h) 8 (by omega)
    (fun t y => part (iblk m c 1 t) (iblk m c 2 t) y) (fun t _ => iblk m c 0 t (ix1 0))
    (fun t h => stepA m c t h (by omega)) (fun t h h' => stepB m c t h h')
    (fun t h => stepC m c t (by omega) h) t ((flush0_3 t).mp hf) _]
  unfold part G
  have hs : ∀ s : Fin 8, (8 * (t.val / 8) + s.val) / 8 = t.val / 8 ∧ (8 * (t.val / 8) + s.val) % 8 = s.val := fun s => by omega
  refine congr (congrArg (fun a b : EReal => a * b) ?_) ?_
  · refine Fin.sum_mul_add_congr fun s k hl => ?_
    blk_point [iblk, V, idx ⟨_, Pipeline.run_point_lt_of_flush t ((flush0_3 t).mp hf) s⟩, idx t]
  · blk_point [iblk, V, idx t]

end Cert.DwoIdeal.Value

end

end
-- ==== Proof.DwoReference.lean ====
module

public import proofs.«01_k».proof.Proof.Gen.DwoReferenceIdeal.Frame
public import proofs.«01_k».proof.Proof.DwoValue

@[expose] public section

set_option maxRecDepth 16384

noncomputable section

open Idealize.ShloMosaic Idealize.ShloMosaic.TcCoe Idealize.SL.Sem
open Idealize.ShloMosaic.Pipeline (Dat)

namespace Cert.DwoReferenceIdeal.Value

open Cert.DwoReferenceIdeal Cert.DwoReferenceIdeal.Gen

variable (m : (ℓ : Loc nD τ sig) → Buf (Elt Ideal) ℓ)

/-- The one grid point's blocks are the whole arrays. -/
theorem idx : ∀ t : Fin cfg0.N, win0_0.index t = ![0] ∧ win0_1.index t = ![0, 0] ∧ win0_2.index t = ![0, 0] ∧ win0_3.index t = ![0, 0] :=
  (by decide +kernel : ∀ t : Fin grid0.N, _)

/-- The reference's result array is the same function of the arguments. -/
theorem final (c : Dev nD) : (dats m 0 c).arrAt 3 (cfgs 0).N
    = Cert.DwoIdeal.Value.G (m ((c : Thread nD τ).loc main_arg0)) (m ((c : Thread nD τ).loc main_arg1)) (m ((c : Thread nD τ).loc main_arg2)) := by
  refine (dats m 0 c).arrAt_eq_of_after_last 3 t0_0 (by decide +kernel) _ fun j => ?_
  blk_simp
  rw [after0_3]
  unfold outsAt0
  frame_out [read_unread_whole]
  pointwise [k0_pay1, Cert.DwoIdeal.Value.G]
  blk_point [iblk, V, idx t0_0]

end Cert.DwoReferenceIdeal.Value

end

end
-- ==== Proof.DwoClaim.lean ====
module

public import proofs.«01_k».proof.Defs
public import proofs.«01_k».proof.Proof.DwoReference
public import Idealize.ShloMosaic.Lib.Claim

@[expose] public section

noncomputable section

open Idealize.ShloMosaic Idealize.ShloMosaic.TcCoe Idealize.SL.Sem

namespace Cert.Proof

/-- The output projection's weight gradient: over the reals, the kernel and the reference leave the same array. -/
theorem algebraic_dwo : Cert.algebraic_DwoIdeal_DwoReferenceIdeal (hDwoIdeal := Cert.DwoIdeal.Gen.facts)
    (hDwoReferenceIdeal := Cert.DwoReferenceIdeal.Gen.facts) := by
  pair_intro
  · run_from Cert.DwoIdeal.Gen.run_main m g
  · run_from Cert.DwoReferenceIdeal.Gen.run_main m' g'
    rw [Cert.DwoIdeal.Value.final m c, Cert.DwoReferenceIdeal.Value.final m' c]
    obtain ⟨h0, h1, h2⟩ := hagree c
    exact (congr (congr (congrArg Cert.DwoIdeal.Value.G h0) h1) h2)

end Cert.Proof

end

end
-- ==== Proof.DwqkvStep.lean ====
module

public import proofs.«01_k».proof.Proof.Gen.DwqkvIdeal.Frame
public import proofs.«01_k».proof.Proof.Acc

@[expose] public section

set_option maxRecDepth 16384

noncomputable section

open Idealize.ShloMosaic Idealize.ShloMosaic.TcCoe Idealize.SL.Sem
open Idealize.ShloMosaic.Pipeline (Dat)

namespace Cert.DwqkvIdeal.Value

open Cert.DwqkvIdeal Cert.DwqkvIdeal.Gen

variable (m : (ℓ : Loc nD τ sig) → Buf (Elt Ideal) ℓ)

/-- One grid point's part of the block: for each head, the product of the point's 1024 rows of the left operand,
    transposed, with the same rows of the head's codes. -/
def part (x2 : FVec Ideal S1024x3584 .fp8e4m3) (x3 : FVec Ideal S1x6x1024x128 .fp8e5m2) (y : S6x3584x128.Idx) : EReal :=
  ∑ k : Fin 1024, x2 (ix2 k (y 1)) * x3 (ix4 0 (y 0) k (y 2))

/-- The six heads of one block, side by side: column `j` is head `j / 128`, lane `j % 128`. -/
theorem rhs_at (B : Vec Ideal S1x6x1024x128 .fp8e5m2) (k : Fin 1024) (j : Fin 768) :
    k0_pay4 (F := Ideal)
      (View.ld B (Rect.unit ![0, 0, 0, 0] ![1, 1, 1024, 128] inb_S1x6x1024x128_S1x1x1024x128_0_0_0_0))
      (View.ld B (Rect.unit ![0, 1, 0, 0] ![1, 1, 1024, 128] inb_S1x6x1024x128_S1x1x1024x128_0_1_0_0))
      (View.ld B (Rect.unit ![0, 2, 0, 0] ![1, 1, 1024, 128] inb_S1x6x1024x128_S1x1x1024x128_0_2_0_0))
      (View.ld B (Rect.unit ![0, 3, 0, 0] ![1, 1, 1024, 128] inb_S1x6x1024x128_S1x1x1024x128_0_3_0_0))
      (View.ld B (Rect.unit ![0, 4, 0, 0] ![1, 1, 1024, 128] inb_S1x6x1024x128_S1x1x1024x128_0_4_0_0))
      (View.ld B (Rect.unit ![0, 5, 0, 0] ![1, 1, 1024, 128] inb_S1x6x1024x128_S1x1x1024x128_0_5_0_0)) (ix2 k j)
      = B (ix4 0 ⟨j.val / 128, by omega⟩ k ⟨j.val % 128, by omega⟩) := by
  pointwise [k0_pay4]
  blk_point []

/-- The same as a function of the index. -/
theorem rhs_fun (B : Vec Ideal S1x6x1024x128 .fp8e5m2) :
    k0_pay4 (F := Ideal)
      (View.ld B (Rect.unit ![0, 0, 0, 0] ![1, 1, 1024, 128] inb_S1x6x1024x128_S1x1x1024x128_0_0_0_0))
      (View.ld B (Rect.unit ![0, 1, 0, 0] ![1, 1, 1024, 128] inb_S1x6x1024x128_S1x1x1024x128_0_1_0_0))
      (View.ld B (Rect.unit ![0, 2, 0, 0] ![1, 1, 1024, 128] inb_S1x6x1024x128_S1x1x1024x128_0_2_0_0))
      (View.ld B (Rect.unit ![0, 3, 0, 0] ![1, 1, 1024, 128] inb_S1x6x1024x128_S1x1x1024x128_0_3_0_0))
      (View.ld B (Rect.unit ![0, 4, 0, 0] ![1, 1, 1024, 128] inb_S1x6x1024x128_S1x1x1024x128_0_4_0_0))
      (View.ld B (Rect.unit ![0, 5, 0, 0] ![1, 1, 1024, 128] inb_S1x6x1024x128_S1x1x1024x128_0_5_0_0))
      = fun i : S1024x768.Idx => B (ix4 0 ⟨(i 1 : ℕ) / 128, by idx_bounds; omega⟩ (i 0) ⟨(i 1 : ℕ) % 128, by omega⟩) := by
  funext i
  idx_vars i
  exact rhs_at B _ _

/-- One store of the update: for 256 rows from `r` of the head whose lanes begin at `o`, the stored tile holds what it held, plus the point's part. -/
theorem piece (X : Vec Ideal S1024x3584 .fp8e4m3) (B : Vec Ideal S1x6x1024x128 .fp8e5m2) (old : Vec Ideal S1x256x128 .f32)
    (r o : ℕ) (inb : ∀ a, (![0, r] : Fin 2 → Nat) a + S1024x256.size a ≤ S1024x3584.size a) (hs : S256x768.Slices ![0, o] S256x128)
    (x : S1x256x128.Idx) (y : S6x3584x128.Idx) (v : EReal) (hv : old x = v)
    (h0 : o = 128 * (y 0 : ℕ)) (h1 : (y 1 : ℕ) = r + (x 1 : ℕ)) (h2 : (y 2 : ℕ) = (x 2 : ℕ)) :
    (shapeCast S1x256x128 (addf (F := Ideal) (shapeCast S256x128 old shapeCasts_S1x256x128_S256x128)
      (extractStridedSlice S256x128 ![0, o] (matmul (φ₁ := .fp8e4m3) (φ₂ := .fp8e5m2) dot_S1024x256_S1024x768_S256x768_0_0_1_1_n_n none
        (shapeCast S1024x256 (View.ld X (Rect.unit ![0, r] ![1024, 256] inb)) shapeCasts_S1024x256_S1024x256)
        (fun i : S1024x768.Idx => B (ix4 0 ⟨(i 1 : ℕ) / 128, by idx_bounds; omega⟩ (i 0) ⟨(i 1 : ℕ) % 128, by omega⟩))
        (constant S256x768 .f32 0x00000000#32)) hs)) shapeCasts_S256x128_S1x256x128 : FVec Ideal S1x256x128 .f32) x
      = v + ∑ k : Fin 1024, X (ix2 k (y 1)) * B (ix4 0 (y 0) k (y 2)) := by
  subst hv h0
  pointwise
  blk_point []

set_option maxHeartbeats 1600000 in
/-- A middle point of a run adds its part to the block. -/
theorem stepB (c : Dev nD) (t : Fin cfg0.N) (h0 : ¬t.val % 8 = 0) (h1 : ¬t.val % 8 = 7) (y : S6x3584x128.Idx) :
    outsAt0 m c t.val t.isLt y = outsAt0 m c (t.val - 1) (Nat.lt_of_le_of_lt (Nat.sub_le _ _) t.isLt) y + part (iblk m c 2 t) (iblk m c 3 t) y := by
  rw [outsAt0_B m c t h0 h1]
  frame_out
  dsimp only [k0_pay5, k0_pay6]
  have hR := rhs_fun (iblk m c 3 t)
  generalize k0_pay4 _ _ _ _ _ _ = R at hR ⊢
  generalize outsAt0 m c (t.val - 1) _ = A
  clear h0 h1
  unfold part
  canon_tiles x h
  all_goals
    subst hR
    refine piece (iblk m c 2 t) (iblk m c 3 t) _ _ _ _ _ x y _ ?_ (by omega) (by omega) (by omega)
    pointwise
    blk_point []

end Cert.DwqkvIdeal.Value

end

end
-- ==== Proof.DwqkvStepA.lean ====
module

public import proofs.«01_k».proof.Proof.Gen.DwqkvIdeal.Frame
public import proofs.«01_k».proof.Proof.DwqkvStep

@[expose] public section

set_option maxRecDepth 16384

noncomputable section

open Idealize.ShloMosaic Idealize.ShloMosaic.TcCoe Idealize.SL.Sem
open Idealize.ShloMosaic.Pipeline (Dat)

namespace Cert.DwqkvIdeal.Value

open Cert.DwqkvIdeal Cert.DwqkvIdeal.Gen

variable (m : (ℓ : Loc nD τ sig) → Buf (Elt Ideal) ℓ)

set_option maxHeartbeats 4000000 in
/-- The first point of a run leaves its part: the block is cleared before the part is added. -/
theorem stepA (c : Dev nD) (t : Fin cfg0.N) (h0 : t.val % 8 = 0) (h1 : ¬t.val % 8 = 7) (y : S6x3584x128.Idx) :
    outsAt0 m c t.val t.isLt y = part (iblk m c 2 t) (iblk m c 3 t) y := by
  rw [outsAt0_A m c t h0 h1]
  frame_open
  simp (disch := decide) only [View.read_writes_junk_eq_canon, ↓View.readCov_skip, ↓View.readCov_fill, View.readAt_eq_ld, Memref.IsWhole.read_unread]
  dsimp only [k0_pay5, k0_pay6]
  have hR := rhs_fun (iblk m c 3 t)
  generalize k0_pay4 _ _ _ _ _ _ = R at hR ⊢
  clear h0 h1
  rw [Cert.Acc.canon_dropLast _ y ?cover]
  case cover =>
    dsimp only [List.dropLast]
    exact View.cover_of_tiled_head _ _ _ (by rfl) y
  dsimp only [List.dropLast]
  unfold part
  rw [← zero_add (Finset.sum _ _)]
  canon_tiles x h
  all_goals
    subst hR
    refine piece (iblk m c 2 t) (iblk m c 3 t) _ _ _ _ _ x y _ ?_ (by omega) (by omega) (by omega)
    pointwise [k0_pay3]

end Cert.DwqkvIdeal.Value

end

end
-- ==== Proof.DwqkvStepC.lean ====
module

public import proofs.«01_k».proof.Proof.Gen.DwqkvIdeal.Frame
public import proofs.«01_k».proof.Proof.DwqkvStep

@[expose] public section

set_option maxRecDepth 16384

noncomputable section

open Idealize.ShloMosaic Idealize.ShloMosaic.TcCoe Idealize.SL.Sem
open Idealize.ShloMosaic.Pipeline (Dat)

namespace Cert.DwqkvIdeal.Value

open Cert.DwqkvIdeal Cert.DwqkvIdeal.Gen

variable (m : (ℓ : Loc nD τ sig) → Buf (Elt Ideal) ℓ)

/-- The product of the two scales. -/
def scale (x0 x1 : FVec Ideal S1 .f32) : EReal := x0 (ix1 0) * x1 (ix1 0)

/-- The last scaling, at one index. -/
theorem pay2_at (Z : FVec Ideal S6x3584x128 .f32) (a b : Elt Ideal .f32) (y : S6x3584x128.Idx) :
    k0_pay2 (F := Ideal) Z a b y = (Z y * ((a : EReal) * (b : EReal)) : EReal) := by
  pointwise [k0_pay2]

set_option maxHeartbeats 1000000 in
/-- The last point of a run adds its part and multiplies the block by the product of the two scales. -/
theorem stepC (c : Dev nD) (t : Fin cfg0.N) (h0 : ¬t.val % 8 = 0) (h1 : t.val % 8 = 7) (y : S6x3584x128.Idx) :
    outsAt0 m c t.val t.isLt y = (outsAt0 m c (t.val - 1) (Nat.lt_of_le_of_lt (Nat.sub_le _ _) t.isLt) y + part (iblk m c 2 t) (iblk m c 3 t) y)
      * scale (iblk m c 0 t) (iblk m c 1 t) := by
  rw [outsAt0_C m c t h0 h1]
  frame_out [View.readCov_eq_canon']
  dsimp only [k0_pay5, k0_pay6]
  have hR := rhs_fun (iblk m c 3 t)
  generalize k0_pay4 _ _ _ _ _ _ = R at hR ⊢
  generalize outsAt0 m c (t.val - 1) _ = A
  clear h0 h1
  unfold part
  refine (pay2_at _ _ _ y).trans ?_
  refine congr (congrArg (fun a b : EReal => a * b) ?_) ?_
  rotate_left
  · unfold scale
    pointwise
  refine (congrArg (View.canon _) (?hidx : _ = y)).trans ?_
  case hidx =>
    first
      | exact Rect.emb_unit_full _ y
      | (refine funext fun a => Fin.ext ?_; fin_cases a <;> simp)
  canon_tiles x h
  all_goals
    subst hR
    refine piece (iblk m c 2 t) (iblk m c 3 t) _ _ _ _ _ x y _ ?_ (by omega) (by omega) (by omega)
    pointwise
    blk_point []

end Cert.DwqkvIdeal.Value

end

end
-- ==== Proof.DwqkvValue.lean ====
module

public import proofs.«01_k».proof.Proof.Gen.DwqkvIdeal.Frame
public import proofs.«01_k».proof.Proof.DwqkvStepA
public import proofs.«01_k».proof.Proof.DwqkvStepC

@[expose] public section

set_option maxRecDepth 16384

noncomputable section

open Idealize.ShloMosaic Idealize.ShloMosaic.TcCoe Idealize.SL.Sem
open Idealize.ShloMosaic.Pipeline (Dat)

namespace Cert.DwqkvIdeal.Value

open Cert.DwqkvIdeal Cert.DwqkvIdeal.Gen

variable (m : (ℓ : Loc nD τ sig) → Buf (Elt Ideal) ℓ)

/-- The windows' block indices at each grid point. -/
theorem idx : ∀ t : Fin cfg0.N, win0_0.index t = ![0] ∧ win0_1.index t = ![0] ∧ win0_2.index t = ![t.val % 8, 0]
    ∧ win0_3.index t = ![t.val % 8 / 4, t.val / 8, t.val % 8 % 4, 0] ∧ win0_4.index t = ![t.val / 8, 0, 0] ∧ t.val < 48 :=
  (by decide +kernel : ∀ t : Fin grid0.N, _)

/-- For each head, the transposed codes of the normalised input (rows: batch and position) times the head's codes, times
    the product of the two scales. -/
def G (x0 x1 : FVec Ideal S1 .f32) (x2 : FVec Ideal S2x4096x3584 .fp8e4m3) (x3 : FVec Ideal S2x36x4096x128 .fp8e5m2) :
    FVec Ideal S36x3584x128 .f32 := fun y =>
  (∑ l : Fin 8192, x2 (ix3 ⟨l.val / 4096, by omega⟩ ⟨l.val % 4096, by omega⟩ (y 1))
    * x3 (ix4 ⟨l.val / 4096, by omega⟩ (y 0) ⟨l.val % 4096, by omega⟩ (y 2))) * (x0 (ix1 0) * x1 (ix1 0))

/-- The result array after the run. -/
theorem final (c : Dev nD) : (dats m 0 c).arrAt 4 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, Cert.Acc.sum_mul_of_last (fun n h => outsAt0 m c n h) 8 (by omega)
    (fun t y => part (iblk m c 2 t) (iblk m c 3 t) y) (fun t _ => scale (iblk m c 0 t) (iblk m c 1 t))
    (fun t h => stepA m c t h (by omega)) (fun t h h' => stepB m c t h h')
    (fun t h => stepC m c t (by omega) h) t ((flush0_4 t).mp hf) _]
  unfold part G scale
  have hs : ∀ s : Fin 8, (8 * (t.val / 8) + s.val) / 8 = t.val / 8 ∧ (8 * (t.val / 8) + s.val) % 8 = s.val := fun s => by omega
  refine congr (congrArg (fun a b : EReal => a * b) ?_) ?_
  · refine Fin.sum_mul_add_congr fun s k hl => ?_
    blk_point [iblk, V, idx ⟨_, Pipeline.run_point_lt_of_flush t ((flush0_4 t).mp hf) s⟩, idx t]
  · blk_point [iblk, V, idx t]

end Cert.DwqkvIdeal.Value

end

end
-- ==== Proof.DwqkvReference.lean ====
module

public import proofs.«01_k».proof.Proof.Gen.DwqkvReferenceIdeal.Frame
public import proofs.«01_k».proof.Proof.DwqkvValue

@[expose] public section

set_option maxRecDepth 16384

noncomputable section

open Idealize.ShloMosaic Idealize.ShloMosaic.TcCoe Idealize.SL.Sem
open Idealize.ShloMosaic.Pipeline (Dat)

namespace Cert.DwqkvReferenceIdeal.Value

open Cert.DwqkvReferenceIdeal Cert.DwqkvReferenceIdeal.Gen

variable (m : (ℓ : Loc nD τ sig) → Buf (Elt Ideal) ℓ)

/-- The one grid point's blocks are the whole arrays. -/
theorem idx : ∀ t : Fin cfg0.N, win0_0.index t = ![0] ∧ win0_1.index t = ![0] ∧ win0_2.index t = ![0, 0] ∧ win0_3.index t = ![0, 0]
    ∧ win0_4.index t = ![0, 0] :=
  (by decide +kernel : ∀ t : Fin grid0.N, _)

/-- The kernel's function, heads side by side in the columns. -/
def H (x0 x1 : FVec Ideal S1 .f32) (x2 : FVec Ideal S2x4096x3584 .fp8e4m3) (x3 : FVec Ideal S2x36x4096x128 .fp8e5m2) :
    FVec Ideal S3584x4608 .f32 := fun y =>
  Cert.DwqkvIdeal.Value.G x0 x1 x2 x3 (ix3 ⟨(y 1 : ℕ) / 128, by idx_bounds; omega⟩ (y 0) ⟨(y 1 : ℕ) % 128, by omega⟩)

/-- The call's result array, before its columns are split into heads. -/
theorem final (c : Dev nD) : (dats m 0 c).arrAt 4 (cfgs 0).N
    = H (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out [read_unread_whole]
  pointwise [k0_pay1, H, Cert.DwqkvIdeal.Value.G]
  have hV : ∀ b, V m c b = StableHlo.after hostOps0 (fun b => m (c, b)) (Proc.tc.devRef b) := fun b => rfl
  simp only [iblk, hV]
  blk_point [idx t0_0]

end Cert.DwqkvReferenceIdeal.Value

end

end
-- ==== Proof.DwqkvClaim.lean ====
module

public import proofs.«01_k».proof.Defs
public import proofs.«01_k».proof.Proof.DwqkvReference
public import Idealize.ShloMosaic.Lib.Claim

@[expose] public section

noncomputable section

open Idealize.ShloMosaic Idealize.ShloMosaic.TcCoe Idealize.SL.Sem

namespace Cert.Proof

/-- The weight gradient of the query, key and value projections: over the reals, the kernel and the reference leave the same array. -/
theorem algebraic_dwqkv : Cert.algebraic_DwqkvIdeal_DwqkvReferenceIdeal (hDwqkvIdeal := Cert.DwqkvIdeal.Gen.facts)
    (hDwqkvReferenceIdeal := Cert.DwqkvReferenceIdeal.Gen.facts) := by
  pair_intro
  · run_from Cert.DwqkvIdeal.Gen.run_main m g
  · run_from Cert.DwqkvReferenceIdeal.Gen.unchanged m' g' & Cert.DwqkvReferenceIdeal.Gen.run_main m' g'
    unfold Pipeline.afterTail₀
    simp only [List.flatten_cons, List.flatten_nil, List.append_nil, Cert.DwqkvReferenceIdeal.Gen.hostOps1]
    after_results
    have hw : Pipeline.withArrays (Cert.DwqkvReferenceIdeal.cfgs 0).spec c (Cert.DwqkvReferenceIdeal.Gen.V0 m' c)
        (fun w => (Cert.DwqkvReferenceIdeal.Gen.dats m' 0 c).arrAt w (Cert.DwqkvReferenceIdeal.cfgs 0).N)
        (Proc.tc.devRef Cert.DwqkvReferenceIdeal.main_v3)
      = (Cert.DwqkvReferenceIdeal.Gen.dats m' 0 c).arrAt 4 (Cert.DwqkvReferenceIdeal.cfgs 0).N :=
      Pipeline.withArrays_arr (Cert.DwqkvReferenceIdeal.cfgs 0).spec (by decide) c _ _ 4
    rw [hw, Cert.DwqkvIdeal.Value.final m c, Cert.DwqkvReferenceIdeal.Value.final m' c]
    obtain ⟨h0, h1, h2, h3⟩ := hagree c
    rw [h0, h1, h2, h3]
    funext y
    pointwise [Cert.DwqkvReferenceIdeal.Value.H]
    blk_point []

end Cert.Proof

end

end
-- ==== Proof.DxTile.lean ====
module

public import proofs.«01_k».proof.Proof.Gen.DxIdeal.Frame
public import proofs.«01_k».proof.Proof.Acc

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

theorem concatW : Shape.Concatenates (List.ofFn fun _ : Fin 36 => S512x128) S512x4608 1 := by
  rw [List.ofFn_const]; decide

theorem concatC : Shape.Concatenates (List.ofFn fun _ : Fin 36 => S256x128) S256x4608 1 := by
  rw [List.ofFn_const]; decide

/-- The weight tiles of the 36 heads side by side, 512 rows from `o` each. -/
def catW (W : Vec Ideal S36x3584x128 .fp8e4m3) (o : ℕ)
    (inb : ∀ h : ℕ, h < 36 → ∀ a, (![h, o, 0] : Fin 3 → Nat) a + S1x512x128.size a ≤ S36x3584x128.size a) : Vec Ideal S512x4608 .fp8e4m3 :=
  concatenate S512x4608 1 (List.ofFn fun h : Fin 36 =>
    ⟨S512x128, shapeCast S512x128 (View.ld W (Rect.unit ![(h : ℕ), o, 0] ![1, 512, 128] (inb h h.isLt))) shapeCasts_S1x512x128_S512x128⟩)
    (by rw [List.map_ofFn]; exact concatW)

/-- The codes of the 36 heads side by side. -/
def catC (C : Vec Ideal S1x36x256x128 .fp8e5m2)
    (inb : ∀ h : ℕ, h < 36 → ∀ a, (![0, h, 0, 0] : Fin 4 → Nat) a + S1x1x256x128.size a ≤ S1x36x256x128.size a) : Vec Ideal S256x4608 .fp8e5m2 :=
  concatenate S256x4608 1 (List.ofFn fun h : Fin 36 =>
    ⟨S256x128, shapeCast S256x128 (View.ld C (Rect.unit ![0, (h : ℕ), 0, 0] ![1, 1, 256, 128] (inb h h.isLt))) shapeCasts_S1x1x256x128_S256x128⟩)
    (by rw [List.map_ofFn]; exact concatC)

/-- One head's tile of the weights at an index. -/
theorem tileW_at (W : Vec Ideal S36x3584x128 .fp8e4m3) (h o : ℕ) (inb : ∀ a, (![h, o, 0] : Fin 3 → Nat) a + S1x512x128.size a ≤ S36x3584x128.size a)
    (hh : h < 36) (ho : o + 512 ≤ 3584) (i : Fin 512) (j : Fin 128) :
    (shapeCast S512x128 (View.ld W (Rect.unit ![h, o, 0] ![1, 512, 128] inb)) shapeCasts_S1x512x128_S512x128 : Vec Ideal S512x128 .fp8e4m3) (ix2 i j)
      = W (ix3 ⟨h, hh⟩ ⟨o + i.val, by omega⟩ j) := by
  refine (shapeCast_apply _ _ _ (ix3 (0 : Fin 1) i j) ?_).trans (View.ld_unit_apply_of W _ _ inb _ _ fun a => ?_)
  · rw [Shape.rowMajor_val_three, Shape.rowMajor_val_two]
    show (0 * 512 + i.val) * 128 + j.val = i.val * 128 + j.val
    omega
  · fin_cases a
    · rfl
    · rfl
    · exact (Nat.zero_add _).symm

/-- One head's codes at an index. -/
theorem tileC_at (C : Vec Ideal S1x36x256x128 .fp8e5m2) (h : ℕ) (inb : ∀ a, (![0, h, 0, 0] : Fin 4 → Nat) a + S1x1x256x128.size a ≤ S1x36x256x128.size a)
    (hh : h < 36) (i : Fin 256) (j : Fin 128) :
    (shapeCast S256x128 (View.ld C (Rect.unit ![0, h, 0, 0] ![1, 1, 256, 128] inb)) shapeCasts_S1x1x256x128_S256x128 : Vec Ideal S256x128 .fp8e5m2) (ix2 i j)
      = C (ix4 0 ⟨h, hh⟩ i j) := by
  refine (shapeCast_apply _ _ _ (ix4 (0 : Fin 1) (0 : Fin 1) i j) ?_).trans (View.ld_unit_apply_of C _ _ inb _ _ fun a => ?_)
  · rw [Shape.rowMajor_val_four, Shape.rowMajor_val_two]
    show ((0 * 1 + 0) * 256 + i.val) * 128 + j.val = i.val * 128 + j.val
    omega
  · fin_cases a
    · rfl
    · rfl
    · exact (Nat.zero_add _).symm
    · exact (Nat.zero_add _).symm

/-- Row `i` of the weight tiles side by side: column `l` is lane `l % 128` of head `l / 128`. -/
theorem catW_at (W : Vec Ideal S36x3584x128 .fp8e4m3) (o : ℕ) (inb) (ho : o + 512 ≤ 3584) (i : Fin 512) (l : Fin 4608) :
    catW W o inb (ix2 i l) = W (ix3 ⟨l.val / 128, by omega⟩ ⟨o + i.val, by omega⟩ ⟨l.val % 128, by omega⟩) := by
  unfold catW
  refine (concatenate_ofFn_apply (t := S512x4608) (s₁ := S512x128) 1 _ _ rfl 128 rfl (ix2 i l) (⟨l.val / 128, by omega⟩ : Fin 36) rfl
    (ix2 i (⟨l.val % 128, by omega⟩ : Fin 128)) rfl (fun b hb => ?_)).trans ?_
  · fin_cases b
    · rfl
    · exact absurd rfl hb
  · exact tileW_at W _ o _ _ ho i _

/-- Row `i` of the codes side by side: column `l` is lane `l % 128` of head `l / 128`. -/
theorem catC_at (C : Vec Ideal S1x36x256x128 .fp8e5m2) (inb) (i : Fin 256) (l : Fin 4608) :
    catC C inb (ix2 i l) = C (ix4 0 ⟨l.val / 128, by omega⟩ i ⟨l.val % 128, by omega⟩) := by
  unfold catC
  refine (concatenate_ofFn_apply (t := S256x4608) (s₁ := S256x128) 1 _ _ rfl 128 rfl (ix2 i l) (⟨l.val / 128, by omega⟩ : Fin 36) rfl
    (ix2 i (⟨l.val % 128, by omega⟩ : Fin 128)) rfl (fun b hb => ?_)).trans ?_
  · fin_cases b
    · rfl
    · exact absurd rfl hb
  · exact tileC_at C _ _ _ i _

/-- The product of the point's codes with the weights: every column of the point's 256 rows of `dxn`. -/
def dxn (s : EReal) (C : FVec Ideal S1x36x256x128 .fp8e5m2) (W : FVec Ideal S36x3584x128 .fp8e4m3) : Vec Ideal S256x3584 .f32 := fun i =>
  (∑ l : Fin 4608, C (ix4 0 ⟨l.val / 128, by omega⟩ (i 0) ⟨l.val % 128, by omega⟩)
    * W (ix3 ⟨l.val / 128, by omega⟩ (i 1) ⟨l.val % 128, by omega⟩)) * s

/-- One tile of the product: the columns from `o` of `dxn`. -/
theorem tile (s : Ideal .f32) (C : FVec Ideal S1x36x256x128 .fp8e5m2) (W : FVec Ideal S36x3584x128 .fp8e4m3) (o : ℕ) (inbC) (inbW)
    (inb : ∀ a, (![0, o] : Fin 2 → Nat) a + S256x512.size a ≤ S256x3584.size a) (ho : o + 512 ≤ 3584) :
    (mulf (F := Ideal) (matmul (φ₁ := .fp8e5m2) (φ₂ := .fp8e4m3) dot_S256x4608_S512x4608_S256x512_1_1_0_0_n_n none
        (catC C inbC) (catW W o inbW) (constant S256x512 .f32 0x00000000#32)) (broadcast S256x512 s) : FVec Ideal S256x512 .f32)
      = View.ld (dxn s C W) (Rect.unit ![0, o] ![256, 512] inb) := by
  have hC := catC_at C inbC
  have hW := catW_at W o inbW ho
  generalize catC C inbC = CC at hC ⊢
  generalize catW W o inbW = WW at hW ⊢
  funext i
  idx_vars i
  unfold dxn
  pointwise
  simp only [hC, hW]

theorem inbC : ∀ h : ℕ, h < 36 → ∀ a, (![0, h, 0, 0] : Fin 4 → Nat) a + S1x1x256x128.size a ≤ S1x36x256x128.size a := by
  intro h hh a
  fin_cases a <;> simp [S1x1x256x128, S1x36x256x128] <;> omega

theorem inbW (o : ℕ) (ho : o + 512 ≤ 3584) : ∀ h : ℕ, h < 36 → ∀ a, (![h, o, 0] : Fin 3 → Nat) a + S1x512x128.size a ≤ S36x3584x128.size a := by
  intro h hh a
  fin_cases a <;> simp [S1x512x128, S36x3584x128] <;> omega

/-- The product of the two scales. -/
def scale (x0 x1 : Vec Ideal S1 .f32) : Ideal .f32 :=
  k0_pay1 (View.ld x0 (Rect.unit ![0] ![1] inb_S1_S1_0) (Shape.Idx.first (by decide)))
    (View.ld x1 (Rect.unit ![0] ![1] inb_S1_S1_0) (Shape.Idx.first (by decide)))

end Cert.DxIdeal.Value

end

end
-- ==== Proof.DxRow.lean ====
module

public import proofs.«01_k».proof.Proof.DxTile

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

/-- One column tile of the product with the input rows. -/
def prodT (X : Vec Ideal S256x3584 .f32) (x : Vec Ideal S256x3584 .bf16) (o : ℕ)
    (inb : ∀ a, (![0, o] : Fin 2 → Nat) a + S256x512.size a ≤ S256x3584.size a) : FVec Ideal S256x512 .f32 :=
  mulf (F := Ideal) (View.ld X (Rect.unit ![0, o] ![256, 512] inb))
    (extf .f32 (shapeCast S256x512 (View.ld x (Rect.unit ![0, o] ![256, 512] inb)) shapeCasts_S256x512_S256x512) bitsLt_bf16_f32)

/-- The same tile weighted by `gamma`. -/
def wT (X : Vec Ideal S256x3584 .f32) (x : Vec Ideal S256x3584 .bf16) (g : Vec Ideal S1x3584 .f32) (o : ℕ)
    (inb : ∀ a, (![0, o] : Fin 2 → Nat) a + S256x512.size a ≤ S256x3584.size a)
    (inbg : ∀ a, (![0, o] : Fin 2 → Nat) a + S1x512.size a ≤ S1x3584.size a) : FVec Ideal S256x512 .f32 :=
  mulf (F := Ideal) (prodT X x o inb)
    (broadcastTo S256x512 (shapeCast S1x512 (View.ld g (Rect.unit ![0, o] ![1, 512] inbg)) shapeCasts_S1x512_S1x512) broadcasts_S1x512_S256x512)

/-- The four lane groups of a tile added to the running sum. -/
def accStep (X : Vec Ideal S256x3584 .f32) (x : Vec Ideal S256x3584 .bf16) (g : Vec Ideal S1x3584 .f32) (o : ℕ)
    (inb : ∀ a, (![0, o] : Fin 2 → Nat) a + S256x512.size a ≤ S256x3584.size a)
    (inbg : ∀ a, (![0, o] : Fin 2 → Nat) a + S1x512.size a ≤ S1x3584.size a) (acc : FVec Ideal S256x128 .f32) : FVec Ideal S256x128 .f32 :=
  k0_pay96 (F := Ideal) acc (prodT X x o inb) (View.ld g (Rect.unit ![0, o] ![1, 512] inbg))

/-- Column `k` of row `i` of the weighted product (0 past the last column). -/
def P (X : Vec Ideal S256x3584 .f32) (x : Vec Ideal S256x3584 .bf16) (g : Vec Ideal S1x3584 .f32) (i : Fin 256) (k : ℕ) : EReal :=
  if h : k < 3584 then X (ix2 i ⟨k, h⟩) * x (ix2 i ⟨k, h⟩) * g (ix2 0 ⟨k, h⟩) else 0

theorem wT_at (X : Vec Ideal S256x3584 .f32) (x : Vec Ideal S256x3584 .bf16) (g : Vec Ideal S1x3584 .f32) (o : ℕ) (inb) (inbg)
    (ho : o + 512 ≤ 3584) (i : Fin 256) (j : Fin 512) : wT X x g o inb inbg (ix2 i j) = P X x g i (o + j.val) := by
  unfold wT prodT P
  rw [dif_pos (by omega)]
  pointwise

theorem accStep_at (X : Vec Ideal S256x3584 .f32) (x : Vec Ideal S256x3584 .bf16) (g : Vec Ideal S1x3584 .f32) (o : ℕ) (inb) (inbg)
    (acc : FVec Ideal S256x128 .f32) (ho : o + 512 ≤ 3584) (i : Fin 256) (j : Fin 128) :
    accStep X x g o inb inbg acc (ix2 i j) = acc (ix2 i j) + P X x g i (o + j.val) + P X x g i ((o + 128) + j.val)
      + P X x g i ((o + 256) + j.val) + P X x g i ((o + 384) + j.val) := by
  have h := wT_at X x g o inb inbg ho i
  unfold accStep k0_pay96
  change addf (F := Ideal) (addf (addf (addf acc
    (extractStridedSlice S256x128 ![0, 0] (wT X x g o inb inbg) slices_S256x512_o0_0_S256x128))
    (extractStridedSlice S256x128 ![0, 128] (wT X x g o inb inbg) slices_S256x512_o0_128_S256x128))
    (extractStridedSlice S256x128 ![0, 256] (wT X x g o inb inbg) slices_S256x512_o0_256_S256x128))
    (extractStridedSlice S256x128 ![0, 384] (wT X x g o inb inbg) slices_S256x512_o0_384_S256x128) _ = _
  generalize wT X x g o inb inbg = W at h ⊢
  pointwise
  have h0 := h ⟨j.val, by omega⟩
  have h1 := h ⟨128 + j.val, by omega⟩
  have h2 := h ⟨256 + j.val, by omega⟩
  have h3 := h ⟨384 + j.val, by omega⟩
  simp only [← Nat.add_assoc] at h0 h1 h2 h3
  rw [← h0, ← h1, ← h2, ← h3]

/-! The updates of the running sum are one function of the sum, the tile and `gamma`; the updates of `dgamma` are one
    function of `rstd`, the tile and what was held. -/

theorem acc131 : @k0_pay131 Ideal _ = k0_pay96 := rfl

theorem acc231 : @k0_pay231 Ideal _ = k0_pay96 := rfl

theorem acc64 (a b c w z x g) : k0_pay64 (F := Ideal) a b c w z x g = k0_pay96 c (k0_pay62 a b w z x) g := rfl

theorem acc199 (a b c w z x g) : k0_pay199 (F := Ideal) a b c w z x g = k0_pay96 c (k0_pay197 a b w z x) g := rfl

theorem acc169 (a b c w0 w1 w2 w3 w4 w5 w6 w7 w8 w9 w10 w11 w12 w13 w14 w15 w16 w17 w18 w19 w20 w21 w22 w23 w24 w25 w26 w27 w28 w29 w30 w31 w32 w33 w34 w35 x g) :
    k0_pay169 (F := Ideal) a b c w0 w1 w2 w3 w4 w5 w6 w7 w8 w9 w10 w11 w12 w13 w14 w15 w16 w17 w18 w19 w20 w21 w22 w23 w24 w25 w26 w27 w28 w29 w30 w31 w32 w33 w34 w35 x g
      = k0_pay96 c (k0_pay167 a b w0 w1 w2 w3 w4 w5 w6 w7 w8 w9 w10 w11 w12 w13 w14 w15 w16 w17 w18 w19 w20 w21 w22 w23 w24 w25 w26 w27 w28 w29 w30 w31 w32 w33 w34 w35 x) g := rfl

theorem dg230 : @k0_pay230 Ideal _ = k0_pay95 := rfl

theorem dg63 (a b r w z x g) : k0_pay63 (F := Ideal) a b r w z x g = k0_pay95 r (k0_pay62 a b w z x) g := rfl

theorem dg198 (a b r w z x g) : k0_pay198 (F := Ideal) a b r w z x g = k0_pay95 r (k0_pay197 a b w z x) g := rfl

theorem dg130 (a b r w0 w1 w2 w3 w4 w5 w6 w7 w8 w9 w10 w11 w12 w13 w14 w15 w16 w17 w18 w19 w20 w21 w22 w23 w24 w25 w26 w27 w28 w29 w30 w31 w32 w33 w34 w35 x g) :
    k0_pay130 (F := Ideal) a b r w0 w1 w2 w3 w4 w5 w6 w7 w8 w9 w10 w11 w12 w13 w14 w15 w16 w17 w18 w19 w20 w21 w22 w23 w24 w25 w26 w27 w28 w29 w30 w31 w32 w33 w34 w35 x g
      = k0_pay95 r (k0_pay129 a b w0 w1 w2 w3 w4 w5 w6 w7 w8 w9 w10 w11 w12 w13 w14 w15 w16 w17 w18 w19 w20 w21 w22 w23 w24 w25 w26 w27 w28 w29 w30 w31 w32 w33 w34 w35 x) g := rfl

theorem dg168 (a b r w0 w1 w2 w3 w4 w5 w6 w7 w8 w9 w10 w11 w12 w13 w14 w15 w16 w17 w18 w19 w20 w21 w22 w23 w24 w25 w26 w27 w28 w29 w30 w31 w32 w33 w34 w35 x g) :
    k0_pay168 (F := Ideal) a b r w0 w1 w2 w3 w4 w5 w6 w7 w8 w9 w10 w11 w12 w13 w14 w15 w16 w17 w18 w19 w20 w21 w22 w23 w24 w25 w26 w27 w28 w29 w30 w31 w32 w33 w34 w35 x g
      = k0_pay95 r (k0_pay167 a b w0 w1 w2 w3 w4 w5 w6 w7 w8 w9 w10 w11 w12 w13 w14 w15 w16 w17 w18 w19 w20 w21 w22 w23 w24 w25 w26 w27 w28 w29 w30 w31 w32 w33 w34 w35 x) g := rfl

theorem dg265 (a b r w0 w1 w2 w3 w4 w5 w6 w7 w8 w9 w10 w11 w12 w13 w14 w15 w16 w17 w18 w19 w20 w21 w22 w23 w24 w25 w26 w27 w28 w29 w30 w31 w32 w33 w34 w35 x g) :
    k0_pay265 (F := Ideal) a b r w0 w1 w2 w3 w4 w5 w6 w7 w8 w9 w10 w11 w12 w13 w14 w15 w16 w17 w18 w19 w20 w21 w22 w23 w24 w25 w26 w27 w28 w29 w30 w31 w32 w33 w34 w35 x g
      = k0_pay95 r (k0_pay264 a b w0 w1 w2 w3 w4 w5 w6 w7 w8 w9 w10 w11 w12 w13 w14 w15 w16 w17 w18 w19 w20 w21 w22 w23 w24 w25 w26 w27 w28 w29 w30 w31 w32 w33 w34 w35 x) g := rfl

/-- One entry of `row_dot`: `r` times the mean over the columns. -/
def rowDot (X : Vec Ideal S256x3584 .f32) (x : Vec Ideal S256x3584 .bf16) (g : Vec Ideal S1x3584 .f32) (r : Vec Ideal S1x1x256 .f32) (i : Fin 256) : EReal :=
  r (ix3 0 0 i) * Ideal.div (∑ k : Fin 3584, X (ix2 i k) * x (ix2 i k) * g (ix2 0 k)) (Ideal.ofBits FTy.f32 0x45600000#32)

theorem sum_groups (f : ℕ → EReal) : ∑ j : Fin 128, ∑ q ∈ Finset.range 28, f (128 * q + j.val) = ∑ k : Fin 3584, f k.val := by
  rw [Finset.sum_comm, ← Fin.sum_univ_eq_sum_range (fun q => ∑ j : Fin 128, f (128 * q + j.val)) 28]
  refine Fin.sum_mul_add_congr (S := 28) (n := 128) (f := fun l : Fin 3584 => f l.val) (fun s k hl => ?_) (by decide)
  show f (128 * s.val + k.val) = f (s.val * 128 + k.val)
  rw [Nat.mul_comm]

theorem pay266_at (X : Vec Ideal S256x3584 .f32) (x : Vec Ideal S256x3584 .bf16) (g : Vec Ideal S1x3584 .f32) (r : Vec Ideal S1x1x256 .f32)
    (i : Fin 256) :
    k0_pay266 (F := Ideal) (k0_pay32 r)
      (accStep X x g 2560 (by decide) (by decide)
        (accStep X x g 2048 (by decide) (by decide)
        (accStep X x g 1536 (by decide) (by decide)
        (accStep X x g 1024 (by decide) (by decide)
        (accStep X x g 512 (by decide) (by decide)
        (accStep X x g 0 (by decide) (by decide) (k0_pay34 (F := Ideal))))))))
      (prodT X x 3072 (by decide)) (View.ld g (Rect.unit ![0, 3072] ![1, 512] (by decide))) (ix2 i 0) = rowDot X x g r i := by
  have key : ∀ A : FVec Ideal S256x128 .f32, k0_pay266 (F := Ideal) (k0_pay32 r) A
      (prodT X x 3072 (by decide)) (View.ld g (Rect.unit ![0, 3072] ![1, 512] (by decide))) (ix2 i 0)
      = r (ix3 0 0 i) * Ideal.div (∑ j : Fin 128, accStep X x g 3072 (by decide) (by decide) A (ix2 i j)) (Ideal.ofBits FTy.f32 0x45600000#32) := by
    intro A
    unfold k0_pay266
    dsimp only
    change mulf (F := Ideal) _ (divf (F := Ideal) (shapeCast S256x1 (multiReduction .add [0+1] S256 (accStep X x g 3072 (by decide) (by decide) A) _ _ _ _) _) _) _ = _
    generalize accStep X x g 3072 _ _ A = B
    pointwise [k0_pay32]
  rw [key]
  unfold rowDot
  refine congrArg (fun a : EReal => r (ix3 0 0 i) * Ideal.div a (Ideal.ofBits FTy.f32 0x45600000#32)) ?_
  have hz : ∀ j : Fin 128, (k0_pay34 (F := Ideal)) (ix2 i j) = 0 := fun j => by
    pointwise [k0_pay34]
  refine Eq.trans ?_ ((sum_groups (P X x g i)).trans (Finset.sum_congr rfl fun k _ => dif_pos k.isLt))
  refine Finset.sum_congr rfl fun j _ => ?_
  simp only [accStep_at X x g 0 _ _ _ (by decide), accStep_at X x g 512 _ _ _ (by decide), accStep_at X x g 1024 _ _ _ (by decide), accStep_at X x g 1536 _ _ _ (by decide), accStep_at X x g 2048 _ _ _ (by decide), accStep_at X x g 2560 _ _ _ (by decide), accStep_at X x g 3072 _ _ _ (by decide), hz, Finset.sum_range_succ, Finset.sum_range_zero, Nat.reduceAdd, Nat.reduceMul]

/-- `r` squared times `row_dot`. -/
theorem pay268_at (X : Vec Ideal S256x3584 .f32) (x : Vec Ideal S256x3584 .bf16) (g : Vec Ideal S1x3584 .f32) (r : Vec Ideal S1x1x256 .f32)
    (i : Fin 256) :
    k0_pay268 (F := Ideal) (k0_pay32 r)
      (accStep X x g 2560 (by decide) (by decide)
        (accStep X x g 2048 (by decide) (by decide)
        (accStep X x g 1536 (by decide) (by decide)
        (accStep X x g 1024 (by decide) (by decide)
        (accStep X x g 512 (by decide) (by decide)
        (accStep X x g 0 (by decide) (by decide) (k0_pay34 (F := Ideal))))))))
      (prodT X x 3072 (by decide)) (View.ld g (Rect.unit ![0, 3072] ![1, 512] (by decide))) (ix2 i 0)
      = r (ix3 0 0 i) * r (ix3 0 0 i) * rowDot X x g r i := by
  rw [← pay266_at X x g r i]
  unfold k0_pay268
  generalize k0_pay266 (F := Ideal) _ _ _ _ = R
  pointwise [k0_pay32]

end Cert.DxIdeal.Value

end

end
-- ==== Proof.DxPieces.lean ====
module

public import proofs.«01_k».proof.Proof.DxRow

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

/-- The stored `row_dot` at an index. -/
theorem pay267_at (X : Vec Ideal S256x3584 .f32) (x : Vec Ideal S256x3584 .bf16) (g : Vec Ideal S1x3584 .f32) (r : Vec Ideal S1x1x256 .f32)
    (y : S1x1x256.Idx) :
    k0_pay267 (F := Ideal) (k0_pay32 r)
      (accStep X x g 2560 (by decide) (by decide)
        (accStep X x g 2048 (by decide) (by decide)
        (accStep X x g 1536 (by decide) (by decide)
        (accStep X x g 1024 (by decide) (by decide)
        (accStep X x g 512 (by decide) (by decide)
        (accStep X x g 0 (by decide) (by decide) (k0_pay34 (F := Ideal))))))))
      (prodT X x 3072 (by decide)) (View.ld g (Rect.unit ![0, 3072] ![1, 512] (by decide))) y = rowDot X x g r (y 2) := by
  rw [← pay266_at X x g r (y 2)]
  unfold k0_pay267
  generalize k0_pay266 (F := Ideal) _ _ _ _ = R
  idx_vars y
  pointwise

/-- One stored tile of the scratch buffer at an index of the whole. -/
theorem pieceX (X : Vec Ideal S256x3584 .f32) (o : ℕ) (inb : ∀ a, (![0, o] : Fin 2 → Nat) a + S256x512.size a ≤ S256x3584.size a)
    (x : S256x512.Idx) (y : S256x3584.Idx) (h0 : (y 0 : ℕ) = (x 0 : ℕ)) (h1 : (y 1 : ℕ) = o + (x 1 : ℕ)) :
    (shapeCast S256x512 (View.ld X (Rect.unit ![0, o] ![256, 512] inb)) shapeCasts_S256x512_S256x512 : Vec Ideal S256x512 .f32) x = X y := by
  refine (congrFun (shapeCast_id _ _) x).trans ?_
  refine View.ld_unit_apply_of X _ _ inb _ _ fun a => ?_
  fin_cases a
  · exact h0.trans (Nat.zero_add _).symm
  · exact h1

/-- The scratch buffer's seven tiles are the whole product. -/
theorem scratch_canon (X : Vec Ideal S256x3584 .f32) :
    View.canon (Val := Elt Ideal) (e := .f32) (s := S256x3584) [
      ⟨Rect.unit ![0, 3072] ![256, 512] inb_S256x3584_S256x512_0_3072, shapeCast S256x512 (View.ld X (Rect.unit ![0, 3072] ![256, 512] inb_S256x3584_S256x512_0_3072)) shapeCasts_S256x512_S256x512⟩,
      ⟨Rect.unit ![0, 2560] ![256, 512] inb_S256x3584_S256x512_0_2560, shapeCast S256x512 (View.ld X (Rect.unit ![0, 2560] ![256, 512] inb_S256x3584_S256x512_0_2560)) shapeCasts_S256x512_S256x512⟩,
      ⟨Rect.unit ![0, 2048] ![256, 512] inb_S256x3584_S256x512_0_2048, shapeCast S256x512 (View.ld X (Rect.unit ![0, 2048] ![256, 512] inb_S256x3584_S256x512_0_2048)) shapeCasts_S256x512_S256x512⟩,
      ⟨Rect.unit ![0, 1536] ![256, 512] inb_S256x3584_S256x512_0_1536, shapeCast S256x512 (View.ld X (Rect.unit ![0, 1536] ![256, 512] inb_S256x3584_S256x512_0_1536)) shapeCasts_S256x512_S256x512⟩,
      ⟨Rect.unit ![0, 1024] ![256, 512] inb_S256x3584_S256x512_0_1024, shapeCast S256x512 (View.ld X (Rect.unit ![0, 1024] ![256, 512] inb_S256x3584_S256x512_0_1024)) shapeCasts_S256x512_S256x512⟩,
      ⟨Rect.unit ![0, 512] ![256, 512] inb_S256x3584_S256x512_0_512, shapeCast S256x512 (View.ld X (Rect.unit ![0, 512] ![256, 512] inb_S256x3584_S256x512_0_512)) shapeCasts_S256x512_S256x512⟩,
      ⟨Rect.unit ![0, 0] ![256, 512] inb_S256x3584_S256x512_0_0, shapeCast S256x512 (View.ld X (Rect.unit ![0, 0] ![256, 512] inb_S256x3584_S256x512_0_0)) shapeCasts_S256x512_S256x512⟩] = X := by
  funext y
  canon_tiles x h
  all_goals exact pieceX X _ _ x y (by omega) (by omega)

theorem dx269 (a b c d e f g h) : k0_pay269 (F := Ideal) a b c d e f g h = k0_pay270 a (k0_pay268 a b c d) e f g h := rfl

theorem dx271 : @k0_pay271 Ideal _ = k0_pay270 := rfl

theorem dx272 : @k0_pay272 Ideal _ = k0_pay270 := rfl

theorem dx273 : @k0_pay273 Ideal _ = k0_pay270 := rfl

theorem dx274 : @k0_pay274 Ideal _ = k0_pay270 := rfl

theorem dx275 : @k0_pay275 Ideal _ = k0_pay270 := rfl

/-- One entry of `dx`. -/
def dxVal (X : Vec Ideal S256x3584 .f32) (x : Vec Ideal S256x3584 .bf16) (dy : Vec Ideal S256x3584 .bf16) (g : Vec Ideal S1x3584 .f32)
    (r : Vec Ideal S1x1x256 .f32) (y : S256x3584.Idx) : EReal :=
  r (ix3 0 0 (y 0)) * g (ix2 0 (y 1)) * X y - x y * (r (ix3 0 0 (y 0)) * r (ix3 0 0 (y 0)) * rowDot X x g r (y 0)) + dy y

/-- One stored tile of `dx` at an index of the block. -/
theorem pieceDx (X : Vec Ideal S256x3584 .f32) (x : Vec Ideal S256x3584 .bf16) (dy : Vec Ideal S256x3584 .bf16) (g : Vec Ideal S1x3584 .f32)
    (r : Vec Ideal S1x1x256 .f32) (BK : FVec Ideal S256x1 .f32)
    (hb : ∀ i : Fin 256, BK (ix2 i 0) = r (ix3 0 0 i) * r (ix3 0 0 i) * rowDot X x g r i) (o : ℕ)
    (inb : ∀ a, (![0, o] : Fin 2 → Nat) a + S256x512.size a ≤ S256x3584.size a)
    (inbg : ∀ a, (![0, o] : Fin 2 → Nat) a + S1x512.size a ≤ S1x3584.size a)
    (xi : S256x512.Idx) (y : S256x3584.Idx) (h0 : (y 0 : ℕ) = (xi 0 : ℕ)) (h1 : (y 1 : ℕ) = o + (xi 1 : ℕ)) :
    k0_pay270 (F := Ideal) (k0_pay32 r) BK (View.ld g (Rect.unit ![0, o] ![1, 512] inbg)) (View.ld X (Rect.unit ![0, o] ![256, 512] inb))
      (View.ld x (Rect.unit ![0, o] ![256, 512] inb)) (View.ld dy (Rect.unit ![0, o] ![256, 512] inb)) xi = dxVal X x dy g r y := by
  unfold dxVal
  refine Eq.trans ?_ (congrArg (fun b : EReal => r (ix3 0 0 (y 0)) * g (ix2 0 (y 1)) * X y - x y * b + dy y) (hb (y 0)))
  clear hb
  pointwise [k0_pay270, k0_pay32]
  blk_point []

/-- What one point adds to `dgamma`. -/
def dgPart (X : Vec Ideal S256x3584 .f32) (x : Vec Ideal S256x3584 .bf16) (r : Vec Ideal S1x1x256 .f32) (y : S1x3584.Idx) : EReal :=
  ∑ i : Fin 256, X (ix2 i (y 1)) * x (ix2 i (y 1)) * r (ix3 0 0 i)

/-- One stored tile of `dgamma` at an index of the block. -/
theorem pieceDg (X : Vec Ideal S256x3584 .f32) (x : Vec Ideal S256x3584 .bf16)
    (r : Vec Ideal S1x1x256 .f32) (o : ℕ)
    (inb : ∀ a, (![0, o] : Fin 2 → Nat) a + S256x512.size a ≤ S256x3584.size a)
    (old : Vec Ideal S1x512 .f32)
    (xi : S1x512.Idx) (y : S1x3584.Idx) (v : EReal) (hv : old xi = v) (h1 : (y 1 : ℕ) = o + (xi 1 : ℕ)) :
    k0_pay95 (F := Ideal) (k0_pay32 r) (prodT X x o inb) old xi = v + dgPart X x r y := by
  unfold dgPart prodT
  subst hv
  pointwise [k0_pay95, k0_pay32]
  blk_point []

/-- The same when the tile held what the block had there. -/
theorem pieceDgB (X : Vec Ideal S256x3584 .f32) (x : Vec Ideal S256x3584 .bf16)
    (r : Vec Ideal S1x1x256 .f32) (A : Vec Ideal S1x3584 .f32) (o : ℕ)
    (inb : ∀ a, (![0, o] : Fin 2 → Nat) a + S256x512.size a ≤ S256x3584.size a)
    (inbg : ∀ a, (![0, o] : Fin 2 → Nat) a + S1x512.size a ≤ S1x3584.size a)
    (xi : S1x512.Idx) (y : S1x3584.Idx) (h0 : (y 0 : ℕ) = (xi 0 : ℕ)) (h1 : (y 1 : ℕ) = o + (xi 1 : ℕ)) :
    k0_pay95 (F := Ideal) (k0_pay32 r) (prodT X x o inb) (View.ld A (Rect.unit ![0, o] ![1, 512] inbg)) xi = A y + dgPart X x r y := by
  refine pieceDg X x r o inb _ xi y _ ?_ h1
  refine View.ld_unit_apply_of A _ _ _ _ _ fun a => ?_
  fin_cases a
  · exact h0.trans (Nat.zero_add _).symm
  · exact h1

end Cert.DxIdeal.Value

end

end
-- ==== Proof.DxOut8A.lean ====
module

public import proofs.«01_k».proof.Proof.DxPieces

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

set_option maxHeartbeats 600000 in
/-- The point's block of `dx`. -/
theorem step8A (c : Dev nD) (t : Fin cfg0.N) (h0 : t.val % 32 = 0) (y : S256x3584.Idx) :
    (outsAt0 m c t.val t.isLt).1 y = dxVal (dxn (scale (iblk m c 0 t) (iblk m c 1 t)) (iblk m c 2 t) (iblk m c 3 t)) (iblk m c 4 t) (iblk m c 5 t) (iblk m c 7 t) (iblk m c 6 t) y := by
  rw [outsAt0_A m c t h0]
  frame_out
  simp only [acc131, acc231, acc64, acc199, acc169, dx269, dx271, dx272, dx273, dx274, dx275]
  dsimp only [k0_pay61, k0_pay62, k0_pay93, k0_pay94, k0_pay128, k0_pay129, k0_pay166, k0_pay167, k0_pay196, k0_pay197, k0_pay228, k0_pay229, k0_pay263, k0_pay264]
  generalize hD0 : k0_pay60 (F := Ideal) _ _ _ _ = D0
  replace hD0 := hD0.symm.trans (tile (scale (iblk m c 0 t) (iblk m c 1 t)) (iblk m c 2 t) (iblk m c 3 t) 0 inbC (inbW 0 (by decide)) (by decide) (by decide))
  generalize hD1 : k0_pay92 (F := Ideal) _ _ _ _ _ _ _ _ _ _ _ _ _ _ _ _ _ _ _ _ _ _ _ _ _ _ _ _ _ _ _ _ _ _ _ _ _ _ = D1
  replace hD1 := hD1.symm.trans (tile (scale (iblk m c 0 t) (iblk m c 1 t)) (iblk m c 2 t) (iblk m c 3 t) 512 inbC (inbW 512 (by decide)) (by decide) (by decide))
  generalize hD2 : k0_pay127 (F := Ideal) _ _ _ _ _ _ _ _ _ _ _ _ _ _ _ _ _ _ _ _ _ _ _ _ _ _ _ _ _ _ _ _ _ _ _ _ _ _ = D2
  replace hD2 := hD2.symm.trans (tile (scale (iblk m c 0 t) (iblk m c 1 t)) (iblk m c 2 t) (iblk m c 3 t) 1024 inbC (inbW 1024 (by decide)) (by decide) (by decide))
  generalize hD3 : k0_pay165 (F := Ideal) _ _ _ _ _ _ _ _ _ _ _ _ _ _ _ _ _ _ _ _ _ _ _ _ _ _ _ _ _ _ _ _ _ _ _ _ _ _ = D3
  replace hD3 := hD3.symm.trans (tile (scale (iblk m c 0 t) (iblk m c 1 t)) (iblk m c 2 t) (iblk m c 3 t) 1536 inbC (inbW 1536 (by decide)) (by decide) (by decide))
  generalize hD4 : k0_pay195 (F := Ideal) _ _ _ _ = D4
  replace hD4 := hD4.symm.trans (tile (scale (iblk m c 0 t) (iblk m c 1 t)) (iblk m c 2 t) (iblk m c 3 t) 2048 inbC (inbW 2048 (by decide)) (by decide) (by decide))
  generalize hD5 : k0_pay227 (F := Ideal) _ _ _ _ _ _ _ _ _ _ _ _ _ _ _ _ _ _ _ _ _ _ _ _ _ _ _ _ _ _ _ _ _ _ _ _ _ _ = D5
  replace hD5 := hD5.symm.trans (tile (scale (iblk m c 0 t) (iblk m c 1 t)) (iblk m c 2 t) (iblk m c 3 t) 2560 inbC (inbW 2560 (by decide)) (by decide) (by decide))
  generalize hD6 : k0_pay262 (F := Ideal) _ _ _ _ _ _ _ _ _ _ _ _ _ _ _ _ _ _ _ _ _ _ _ _ _ _ _ _ _ _ _ _ _ _ _ _ _ _ = D6
  replace hD6 := hD6.symm.trans (tile (scale (iblk m c 0 t) (iblk m c 1 t)) (iblk m c 2 t) (iblk m c 3 t) 3072 inbC (inbW 3072 (by decide)) (by decide) (by decide))
  subst hD0 hD1 hD2 hD3 hD4 hD5 hD6
  generalize dxn (scale (iblk m c 0 t) (iblk m c 1 t)) (iblk m c 2 t) (iblk m c 3 t) = X
  clear h0
  simp only [View.readCov_eq_canon']
  rw [scratch_canon X]
  generalize hB : k0_pay268 (F := Ideal) _ _ _ _ = BK
  have hb : ∀ i : Fin 256, BK (ix2 i 0) = _ := fun i => (congrFun hB.symm (ix2 i 0)).trans (pay268_at X (iblk m c 4 t) (iblk m c 7 t) (iblk m c 6 t) i)
  clear hB
  canon_tiles x h
  all_goals exact pieceDx X (iblk m c 4 t) (iblk m c 5 t) (iblk m c 7 t) (iblk m c 6 t) BK hb _ _ _ x y (by omega) (by omega)

end Cert.DxIdeal.Value

end

end
-- ==== Proof.DxOut8B.lean ====
module

public import proofs.«01_k».proof.Proof.DxPieces

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

set_option maxHeartbeats 600000 in
/-- The point's block of `dx`. -/
theorem step8B (c : Dev nD) (t : Fin cfg0.N) (h0 : ¬t.val % 32 = 0) (y : S256x3584.Idx) :
    (outsAt0 m c t.val t.isLt).1 y = dxVal (dxn (scale (iblk m c 0 t) (iblk m c 1 t)) (iblk m c 2 t) (iblk m c 3 t)) (iblk m c 4 t) (iblk m c 5 t) (iblk m c 7 t) (iblk m c 6 t) y := by
  rw [outsAt0_B m c t h0]
  frame_out
  simp only [acc131, acc231, acc64, acc199, acc169, dx269, dx271, dx272, dx273, dx274, dx275]
  dsimp only [k0_pay61, k0_pay62, k0_pay93, k0_pay94, k0_pay128, k0_pay129, k0_pay166, k0_pay167, k0_pay196, k0_pay197, k0_pay228, k0_pay229, k0_pay263, k0_pay264]
  generalize hD0 : k0_pay60 (F := Ideal) _ _ _ _ = D0
  replace hD0 := hD0.symm.trans (tile (scale (iblk m c 0 t) (iblk m c 1 t)) (iblk m c 2 t) (iblk m c 3 t) 0 inbC (inbW 0 (by decide)) (by decide) (by decide))
  generalize hD1 : k0_pay92 (F := Ideal) _ _ _ _ _ _ _ _ _ _ _ _ _ _ _ _ _ _ _ _ _ _ _ _ _ _ _ _ _ _ _ _ _ _ _ _ _ _ = D1
  replace hD1 := hD1.symm.trans (tile (scale (iblk m c 0 t) (iblk m c 1 t)) (iblk m c 2 t) (iblk m c 3 t) 512 inbC (inbW 512 (by decide)) (by decide) (by decide))
  generalize hD2 : k0_pay127 (F := Ideal) _ _ _ _ _ _ _ _ _ _ _ _ _ _ _ _ _ _ _ _ _ _ _ _ _ _ _ _ _ _ _ _ _ _ _ _ _ _ = D2
  replace hD2 := hD2.symm.trans (tile (scale (iblk m c 0 t) (iblk m c 1 t)) (iblk m c 2 t) (iblk m c 3 t) 1024 inbC (inbW 1024 (by decide)) (by decide) (by decide))
  generalize hD3 : k0_pay165 (F := Ideal) _ _ _ _ _ _ _ _ _ _ _ _ _ _ _ _ _ _ _ _ _ _ _ _ _ _ _ _ _ _ _ _ _ _ _ _ _ _ = D3
  replace hD3 := hD3.symm.trans (tile (scale (iblk m c 0 t) (iblk m c 1 t)) (iblk m c 2 t) (iblk m c 3 t) 1536 inbC (inbW 1536 (by decide)) (by decide) (by decide))
  generalize hD4 : k0_pay195 (F := Ideal) _ _ _ _ = D4
  replace hD4 := hD4.symm.trans (tile (scale (iblk m c 0 t) (iblk m c 1 t)) (iblk m c 2 t) (iblk m c 3 t) 2048 inbC (inbW 2048 (by decide)) (by decide) (by decide))
  generalize hD5 : k0_pay227 (F := Ideal) _ _ _ _ _ _ _ _ _ _ _ _ _ _ _ _ _ _ _ _ _ _ _ _ _ _ _ _ _ _ _ _ _ _ _ _ _ _ = D5
  replace hD5 := hD5.symm.trans (tile (scale (iblk m c 0 t) (iblk m c 1 t)) (iblk m c 2 t) (iblk m c 3 t) 2560 inbC (inbW 2560 (by decide)) (by decide) (by decide))
  generalize hD6 : k0_pay262 (F := Ideal) _ _ _ _ _ _ _ _ _ _ _ _ _ _ _ _ _ _ _ _ _ _ _ _ _ _ _ _ _ _ _ _ _ _ _ _ _ _ = D6
  replace hD6 := hD6.symm.trans (tile (scale (iblk m c 0 t) (iblk m c 1 t)) (iblk m c 2 t) (iblk m c 3 t) 3072 inbC (inbW 3072 (by decide)) (by decide) (by decide))
  subst hD0 hD1 hD2 hD3 hD4 hD5 hD6
  generalize dxn (scale (iblk m c 0 t) (iblk m c 1 t)) (iblk m c 2 t) (iblk m c 3 t) = X
  clear h0
  simp only [View.readCov_eq_canon']
  rw [scratch_canon X]
  generalize hB : k0_pay268 (F := Ideal) _ _ _ _ = BK
  have hb : ∀ i : Fin 256, BK (ix2 i 0) = _ := fun i => (congrFun hB.symm (ix2 i 0)).trans (pay268_at X (iblk m c 4 t) (iblk m c 7 t) (iblk m c 6 t) i)
  clear hB
  canon_tiles x h
  all_goals exact pieceDx X (iblk m c 4 t) (iblk m c 5 t) (iblk m c 7 t) (iblk m c 6 t) BK hb _ _ _ x y (by omega) (by omega)

end Cert.DxIdeal.Value

end

end
-- ==== Proof.DxOut9A.lean ====
module

public import proofs.«01_k».proof.Proof.DxPieces

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

set_option maxHeartbeats 600000 in
/-- `dgamma` after the point. -/
theorem step9A (c : Dev nD) (t : Fin cfg0.N) (h0 : t.val % 32 = 0) (y : S1x3584.Idx) :
    (outsAt0 m c t.val t.isLt).2.1 y = dgPart (dxn (scale (iblk m c 0 t) (iblk m c 1 t)) (iblk m c 2 t) (iblk m c 3 t)) (iblk m c 4 t) (iblk m c 6 t) y := by
  rw [outsAt0_A m c t h0]
  frame_out
  simp only [dg230, dg63, dg198, dg130, dg168, dg265]
  dsimp only [k0_pay61, k0_pay62, k0_pay93, k0_pay94, k0_pay128, k0_pay129, k0_pay166, k0_pay167, k0_pay196, k0_pay197, k0_pay228, k0_pay229, k0_pay263, k0_pay264]
  generalize hD0 : k0_pay60 (F := Ideal) _ _ _ _ = D0
  replace hD0 := hD0.symm.trans (tile (scale (iblk m c 0 t) (iblk m c 1 t)) (iblk m c 2 t) (iblk m c 3 t) 0 inbC (inbW 0 (by decide)) (by decide) (by decide))
  generalize hD1 : k0_pay92 (F := Ideal) _ _ _ _ _ _ _ _ _ _ _ _ _ _ _ _ _ _ _ _ _ _ _ _ _ _ _ _ _ _ _ _ _ _ _ _ _ _ = D1
  replace hD1 := hD1.symm.trans (tile (scale (iblk m c 0 t) (iblk m c 1 t)) (iblk m c 2 t) (iblk m c 3 t) 512 inbC (inbW 512 (by decide)) (by decide) (by decide))
  generalize hD2 : k0_pay127 (F := Ideal) _ _ _ _ _ _ _ _ _ _ _ _ _ _ _ _ _ _ _ _ _ _ _ _ _ _ _ _ _ _ _ _ _ _ _ _ _ _ = D2
  replace hD2 := hD2.symm.trans (tile (scale (iblk m c 0 t) (iblk m c 1 t)) (iblk m c 2 t) (iblk m c 3 t) 1024 inbC (inbW 1024 (by decide)) (by decide) (by decide))
  generalize hD3 : k0_pay165 (F := Ideal) _ _ _ _ _ _ _ _ _ _ _ _ _ _ _ _ _ _ _ _ _ _ _ _ _ _ _ _ _ _ _ _ _ _ _ _ _ _ = D3
  replace hD3 := hD3.symm.trans (tile (scale (iblk m c 0 t) (iblk m c 1 t)) (iblk m c 2 t) (iblk m c 3 t) 1536 inbC (inbW 1536 (by decide)) (by decide) (by decide))
  generalize hD4 : k0_pay195 (F := Ideal) _ _ _ _ = D4
  replace hD4 := hD4.symm.trans (tile (scale (iblk m c 0 t) (iblk m c 1 t)) (iblk m c 2 t) (iblk m c 3 t) 2048 inbC (inbW 2048 (by decide)) (by decide) (by decide))
  generalize hD5 : k0_pay227 (F := Ideal) _ _ _ _ _ _ _ _ _ _ _ _ _ _ _ _ _ _ _ _ _ _ _ _ _ _ _ _ _ _ _ _ _ _ _ _ _ _ = D5
  replace hD5 := hD5.symm.trans (tile (scale (iblk m c 0 t) (iblk m c 1 t)) (iblk m c 2 t) (iblk m c 3 t) 2560 inbC (inbW 2560 (by decide)) (by decide) (by decide))
  generalize hD6 : k0_pay262 (F := Ideal) _ _ _ _ _ _ _ _ _ _ _ _ _ _ _ _ _ _ _ _ _ _ _ _ _ _ _ _ _ _ _ _ _ _ _ _ _ _ = D6
  replace hD6 := hD6.symm.trans (tile (scale (iblk m c 0 t) (iblk m c 1 t)) (iblk m c 2 t) (iblk m c 3 t) 3072 inbC (inbW 3072 (by decide)) (by decide) (by decide))
  subst hD0 hD1 hD2 hD3 hD4 hD5 hD6
  generalize dxn (scale (iblk m c 0 t) (iblk m c 1 t)) (iblk m c 2 t) (iblk m c 3 t) = X
  clear h0
  simp (disch := decide) only [↓View.readCov_skip, ↓View.readCov_fill]
  rw [Cert.Acc.canon_dropLast _ y ?cover]
  case cover =>
    dsimp only [List.dropLast]
    exact View.cover_of_tiled_head _ _ _ (by rfl) y
  dsimp only [List.dropLast]
  rw [← zero_add (dgPart _ _ _ _)]
  canon_tiles x h
  all_goals
    refine pieceDg X (iblk m c 4 t) (iblk m c 6 t) _ _ _ x y _ ?_ (by omega)
    pointwise [k0_pay33]

end Cert.DxIdeal.Value

end

end
-- ==== Proof.DxOut9B.lean ====
module

public import proofs.«01_k».proof.Proof.DxPieces

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

set_option maxHeartbeats 600000 in
/-- `dgamma` after the point. -/
theorem step9B (c : Dev nD) (t : Fin cfg0.N) (h0 : ¬t.val % 32 = 0) (y : S1x3584.Idx) :
    (outsAt0 m c t.val t.isLt).2.1 y = (outsAt0 m c (t.val - 1) (Nat.lt_of_le_of_lt (Nat.sub_le _ _) t.isLt)).2.1 y + dgPart (dxn (scale (iblk m c 0 t) (iblk m c 1 t)) (iblk m c 2 t) (iblk m c 3 t)) (iblk m c 4 t) (iblk m c 6 t) y := by
  rw [outsAt0_B m c t h0]
  frame_out
  simp only [dg230, dg63, dg198, dg130, dg168, dg265]
  dsimp only [k0_pay61, k0_pay62, k0_pay93, k0_pay94, k0_pay128, k0_pay129, k0_pay166, k0_pay167, k0_pay196, k0_pay197, k0_pay228, k0_pay229, k0_pay263, k0_pay264]
  generalize hD0 : k0_pay60 (F := Ideal) _ _ _ _ = D0
  replace hD0 := hD0.symm.trans (tile (scale (iblk m c 0 t) (iblk m c 1 t)) (iblk m c 2 t) (iblk m c 3 t) 0 inbC (inbW 0 (by decide)) (by decide) (by decide))
  generalize hD1 : k0_pay92 (F := Ideal) _ _ _ _ _ _ _ _ _ _ _ _ _ _ _ _ _ _ _ _ _ _ _ _ _ _ _ _ _ _ _ _ _ _ _ _ _ _ = D1
  replace hD1 := hD1.symm.trans (tile (scale (iblk m c 0 t) (iblk m c 1 t)) (iblk m c 2 t) (iblk m c 3 t) 512 inbC (inbW 512 (by decide)) (by decide) (by decide))
  generalize hD2 : k0_pay127 (F := Ideal) _ _ _ _ _ _ _ _ _ _ _ _ _ _ _ _ _ _ _ _ _ _ _ _ _ _ _ _ _ _ _ _ _ _ _ _ _ _ = D2
  replace hD2 := hD2.symm.trans (tile (scale (iblk m c 0 t) (iblk m c 1 t)) (iblk m c 2 t) (iblk m c 3 t) 1024 inbC (inbW 1024 (by decide)) (by decide) (by decide))
  generalize hD3 : k0_pay165 (F := Ideal) _ _ _ _ _ _ _ _ _ _ _ _ _ _ _ _ _ _ _ _ _ _ _ _ _ _ _ _ _ _ _ _ _ _ _ _ _ _ = D3
  replace hD3 := hD3.symm.trans (tile (scale (iblk m c 0 t) (iblk m c 1 t)) (iblk m c 2 t) (iblk m c 3 t) 1536 inbC (inbW 1536 (by decide)) (by decide) (by decide))
  generalize hD4 : k0_pay195 (F := Ideal) _ _ _ _ = D4
  replace hD4 := hD4.symm.trans (tile (scale (iblk m c 0 t) (iblk m c 1 t)) (iblk m c 2 t) (iblk m c 3 t) 2048 inbC (inbW 2048 (by decide)) (by decide) (by decide))
  generalize hD5 : k0_pay227 (F := Ideal) _ _ _ _ _ _ _ _ _ _ _ _ _ _ _ _ _ _ _ _ _ _ _ _ _ _ _ _ _ _ _ _ _ _ _ _ _ _ = D5
  replace hD5 := hD5.symm.trans (tile (scale (iblk m c 0 t) (iblk m c 1 t)) (iblk m c 2 t) (iblk m c 3 t) 2560 inbC (inbW 2560 (by decide)) (by decide) (by decide))
  generalize hD6 : k0_pay262 (F := Ideal) _ _ _ _ _ _ _ _ _ _ _ _ _ _ _ _ _ _ _ _ _ _ _ _ _ _ _ _ _ _ _ _ _ _ _ _ _ _ = D6
  replace hD6 := hD6.symm.trans (tile (scale (iblk m c 0 t) (iblk m c 1 t)) (iblk m c 2 t) (iblk m c 3 t) 3072 inbC (inbW 3072 (by decide)) (by decide) (by decide))
  subst hD0 hD1 hD2 hD3 hD4 hD5 hD6
  generalize (outsAt0 m c (t.val - 1) _).2.1 = A
  generalize dxn (scale (iblk m c 0 t) (iblk m c 1 t)) (iblk m c 2 t) (iblk m c 3 t) = X
  clear h0
  canon_tiles x h
  all_goals exact pieceDgB X (iblk m c 4 t) (iblk m c 6 t) A _ _ _ x y (by omega) (by omega)

end Cert.DxIdeal.Value

end

end
-- ==== Proof.DxOut10A.lean ====
module

public import proofs.«01_k».proof.Proof.DxPieces

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

set_option maxHeartbeats 600000 in
/-- The point's block of `row_dot`. -/
theorem step10A (c : Dev nD) (t : Fin cfg0.N) (h0 : t.val % 32 = 0) (y : S1x1x256.Idx) :
    (outsAt0 m c t.val t.isLt).2.2 y = rowDot (dxn (scale (iblk m c 0 t) (iblk m c 1 t)) (iblk m c 2 t) (iblk m c 3 t)) (iblk m c 4 t) (iblk m c 7 t) (iblk m c 6 t) (y 2) := by
  rw [outsAt0_A m c t h0]
  frame_out
  simp only [acc131, acc231, acc64, acc199, acc169]
  dsimp only [k0_pay61, k0_pay62, k0_pay93, k0_pay94, k0_pay128, k0_pay129, k0_pay166, k0_pay167, k0_pay196, k0_pay197, k0_pay228, k0_pay229, k0_pay263, k0_pay264]
  generalize hD0 : k0_pay60 (F := Ideal) _ _ _ _ = D0
  replace hD0 := hD0.symm.trans (tile (scale (iblk m c 0 t) (iblk m c 1 t)) (iblk m c 2 t) (iblk m c 3 t) 0 inbC (inbW 0 (by decide)) (by decide) (by decide))
  generalize hD1 : k0_pay92 (F := Ideal) _ _ _ _ _ _ _ _ _ _ _ _ _ _ _ _ _ _ _ _ _ _ _ _ _ _ _ _ _ _ _ _ _ _ _ _ _ _ = D1
  replace hD1 := hD1.symm.trans (tile (scale (iblk m c 0 t) (iblk m c 1 t)) (iblk m c 2 t) (iblk m c 3 t) 512 inbC (inbW 512 (by decide)) (by decide) (by decide))
  generalize hD2 : k0_pay127 (F := Ideal) _ _ _ _ _ _ _ _ _ _ _ _ _ _ _ _ _ _ _ _ _ _ _ _ _ _ _ _ _ _ _ _ _ _ _ _ _ _ = D2
  replace hD2 := hD2.symm.trans (tile (scale (iblk m c 0 t) (iblk m c 1 t)) (iblk m c 2 t) (iblk m c 3 t) 1024 inbC (inbW 1024 (by decide)) (by decide) (by decide))
  generalize hD3 : k0_pay165 (F := Ideal) _ _ _ _ _ _ _ _ _ _ _ _ _ _ _ _ _ _ _ _ _ _ _ _ _ _ _ _ _ _ _ _ _ _ _ _ _ _ = D3
  replace hD3 := hD3.symm.trans (tile (scale (iblk m c 0 t) (iblk m c 1 t)) (iblk m c 2 t) (iblk m c 3 t) 1536 inbC (inbW 1536 (by decide)) (by decide) (by decide))
  generalize hD4 : k0_pay195 (F := Ideal) _ _ _ _ = D4
  replace hD4 := hD4.symm.trans (tile (scale (iblk m c 0 t) (iblk m c 1 t)) (iblk m c 2 t) (iblk m c 3 t) 2048 inbC (inbW 2048 (by decide)) (by decide) (by decide))
  generalize hD5 : k0_pay227 (F := Ideal) _ _ _ _ _ _ _ _ _ _ _ _ _ _ _ _ _ _ _ _ _ _ _ _ _ _ _ _ _ _ _ _ _ _ _ _ _ _ = D5
  replace hD5 := hD5.symm.trans (tile (scale (iblk m c 0 t) (iblk m c 1 t)) (iblk m c 2 t) (iblk m c 3 t) 2560 inbC (inbW 2560 (by decide)) (by decide) (by decide))
  generalize hD6 : k0_pay262 (F := Ideal) _ _ _ _ _ _ _ _ _ _ _ _ _ _ _ _ _ _ _ _ _ _ _ _ _ _ _ _ _ _ _ _ _ _ _ _ _ _ = D6
  replace hD6 := hD6.symm.trans (tile (scale (iblk m c 0 t) (iblk m c 1 t)) (iblk m c 2 t) (iblk m c 3 t) 3072 inbC (inbW 3072 (by decide)) (by decide) (by decide))
  subst hD0 hD1 hD2 hD3 hD4 hD5 hD6
  generalize dxn (scale (iblk m c 0 t) (iblk m c 1 t)) (iblk m c 2 t) (iblk m c 3 t) = X
  clear h0
  refine (pay267_at X (iblk m c 4 t) (iblk m c 7 t) (iblk m c 6 t) _).trans ?_
  rfl

end Cert.DxIdeal.Value

end

end
-- ==== Proof.DxOut10B.lean ====
module

public import proofs.«01_k».proof.Proof.DxPieces

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

set_option maxHeartbeats 600000 in
/-- The point's block of `row_dot`. -/
theorem step10B (c : Dev nD) (t : Fin cfg0.N) (h0 : ¬t.val % 32 = 0) (y : S1x1x256.Idx) :
    (outsAt0 m c t.val t.isLt).2.2 y = rowDot (dxn (scale (iblk m c 0 t) (iblk m c 1 t)) (iblk m c 2 t) (iblk m c 3 t)) (iblk m c 4 t) (iblk m c 7 t) (iblk m c 6 t) (y 2) := by
  rw [outsAt0_B m c t h0]
  frame_out
  simp only [acc131, acc231, acc64, acc199, acc169]
  dsimp only [k0_pay61, k0_pay62, k0_pay93, k0_pay94, k0_pay128, k0_pay129, k0_pay166, k0_pay167, k0_pay196, k0_pay197, k0_pay228, k0_pay229, k0_pay263, k0_pay264]
  generalize hD0 : k0_pay60 (F := Ideal) _ _ _ _ = D0
  replace hD0 := hD0.symm.trans (tile (scale (iblk m c 0 t) (iblk m c 1 t)) (iblk m c 2 t) (iblk m c 3 t) 0 inbC (inbW 0 (by decide)) (by decide) (by decide))
  generalize hD1 : k0_pay92 (F := Ideal) _ _ _ _ _ _ _ _ _ _ _ _ _ _ _ _ _ _ _ _ _ _ _ _ _ _ _ _ _ _ _ _ _ _ _ _ _ _ = D1
  replace hD1 := hD1.symm.trans (tile (scale (iblk m c 0 t) (iblk m c 1 t)) (iblk m c 2 t) (iblk m c 3 t) 512 inbC (inbW 512 (by decide)) (by decide) (by decide))
  generalize hD2 : k0_pay127 (F := Ideal) _ _ _ _ _ _ _ _ _ _ _ _ _ _ _ _ _ _ _ _ _ _ _ _ _ _ _ _ _ _ _ _ _ _ _ _ _ _ = D2
  replace hD2 := hD2.symm.trans (tile (scale (iblk m c 0 t) (iblk m c 1 t)) (iblk m c 2 t) (iblk m c 3 t) 1024 inbC (inbW 1024 (by decide)) (by decide) (by decide))
  generalize hD3 : k0_pay165 (F := Ideal) _ _ _ _ _ _ _ _ _ _ _ _ _ _ _ _ _ _ _ _ _ _ _ _ _ _ _ _ _ _ _ _ _ _ _ _ _ _ = D3
  replace hD3 := hD3.symm.trans (tile (scale (iblk m c 0 t) (iblk m c 1 t)) (iblk m c 2 t) (iblk m c 3 t) 1536 inbC (inbW 1536 (by decide)) (by decide) (by decide))
  generalize hD4 : k0_pay195 (F := Ideal) _ _ _ _ = D4
  replace hD4 := hD4.symm.trans (tile (scale (iblk m c 0 t) (iblk m c 1 t)) (iblk m c 2 t) (iblk m c 3 t) 2048 inbC (inbW 2048 (by decide)) (by decide) (by decide))
  generalize hD5 : k0_pay227 (F := Ideal) _ _ _ _ _ _ _ _ _ _ _ _ _ _ _ _ _ _ _ _ _ _ _ _ _ _ _ _ _ _ _ _ _ _ _ _ _ _ = D5
  replace hD5 := hD5.symm.trans (tile (scale (iblk m c 0 t) (iblk m c 1 t)) (iblk m c 2 t) (iblk m c 3 t) 2560 inbC (inbW 2560 (by decide)) (by decide) (by decide))
  generalize hD6 : k0_pay262 (F := Ideal) _ _ _ _ _ _ _ _ _ _ _ _ _ _ _ _ _ _ _ _ _ _ _ _ _ _ _ _ _ _ _ _ _ _ _ _ _ _ = D6
  replace hD6 := hD6.symm.trans (tile (scale (iblk m c 0 t) (iblk m c 1 t)) (iblk m c 2 t) (iblk m c 3 t) 3072 inbC (inbW 3072 (by decide)) (by decide) (by decide))
  subst hD0 hD1 hD2 hD3 hD4 hD5 hD6
  generalize dxn (scale (iblk m c 0 t) (iblk m c 1 t)) (iblk m c 2 t) (iblk m c 3 t) = X
  clear h0
  refine (pay267_at X (iblk m c 4 t) (iblk m c 7 t) (iblk m c 6 t) _).trans ?_
  rfl

end Cert.DxIdeal.Value

end

end
-- ==== Proof.DxValue.lean ====
module

public import proofs.«01_k».proof.Proof.DxOut8A
public import proofs.«01_k».proof.Proof.DxOut8B
public import proofs.«01_k».proof.Proof.DxOut9A
public import proofs.«01_k».proof.Proof.DxOut9B
public import proofs.«01_k».proof.Proof.DxOut10A
public import proofs.«01_k».proof.Proof.DxOut10B

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)
/-- The windows' block indices at each grid point. -/
theorem idx : ∀ t : Fin cfg0.N, win0_0.index t = ![0] ∧ win0_1.index t = ![0] ∧ win0_2.index t = ![t.val / 16, 0, t.val % 16, 0]
    ∧ win0_3.index t = ![0, 0, 0] ∧ win0_4.index t = ![t.val, 0] ∧ win0_5.index t = ![t.val, 0] ∧ win0_6.index t = ![t.val, 0, 0]
    ∧ win0_7.index t = ![0, 0] ∧ win0_8.index t = ![t.val, 0] ∧ win0_9.index t = ![0, 0] ∧ win0_10.index t = ![t.val, 0, 0] ∧ t.val < 32 :=
  (by decide +kernel : ∀ t : Fin grid0.N, _)

/-- The gradient of the normalised input: the codes of the heads' gradients times the weight codes, summed over heads and
    lanes, times the product of the two scales. A row is a batch and a position. -/
def XN (a0 a1 : FVec Ideal S1 .f32) (a2 : FVec Ideal S2x36x4096x128 .fp8e5m2) (a3 : FVec Ideal S3584x36x128 .fp8e4m3)
    (i : Fin 8192) (k : Fin 3584) : EReal :=
  (∑ l : Fin 4608, a2 (ix4 ⟨i.val / 4096, by omega⟩ ⟨l.val / 128, by omega⟩ ⟨i.val % 4096, by omega⟩ ⟨l.val % 128, by omega⟩)
    * a3 (ix3 k ⟨l.val / 128, by omega⟩ ⟨l.val % 128, by omega⟩)) * (a0 (ix1 0) * a1 (ix1 0))

/-- The entry of a batched array at a row. -/
def at3 (a : FVec Ideal S2x4096x3584 .bf16) (i : Fin 8192) (k : Fin 3584) : EReal :=
  a (ix3 ⟨i.val / 4096, by omega⟩ ⟨i.val % 4096, by omega⟩ k)

/-- The entry of a batched vector at a row. -/
def at2 (a : FVec Ideal S2x4096 .f32) (i : Fin 8192) : EReal := a (ix2 ⟨i.val / 4096, by omega⟩ ⟨i.val % 4096, by omega⟩)

/-- The row's reciprocal root times the mean over the row of gradient, input and gamma. -/
def RD (X : Fin 8192 → Fin 3584 → EReal) (a4 : FVec Ideal S2x4096x3584 .bf16) (a6 : FVec Ideal S2x4096 .f32)
    (a7 : FVec Ideal S3584 .f32) (i : Fin 8192) : EReal :=
  at2 a6 i * Ideal.div (∑ k : Fin 3584, X i k * a7 (ix1 k) * at3 a4 i k) (Ideal.ofBits FTy.f32 0x45600000#32)

/-- The gradient of the input. -/
def G8 (X : Fin 8192 → Fin 3584 → EReal) (a4 a5 : FVec Ideal S2x4096x3584 .bf16) (a6 : FVec Ideal S2x4096 .f32)
    (a7 : FVec Ideal S3584 .f32) : FVec Ideal S8192x3584 .bf16 := fun y =>
  at2 a6 (y 0) * a7 (ix1 (y 1)) * X (y 0) (y 1) - at3 a4 (y 0) (y 1) * (at2 a6 (y 0) * at2 a6 (y 0) * RD X a4 a6 a7 (y 0)) + at3 a5 (y 0) (y 1)

/-- The gradient of gamma. -/
def G9 (X : Fin 8192 → Fin 3584 → EReal) (a4 : FVec Ideal S2x4096x3584 .bf16) (a6 : FVec Ideal S2x4096 .f32) :
    FVec Ideal S1x3584 .f32 := fun y => ∑ i : Fin 8192, X i (y 1) * at3 a4 i (y 1) * at2 a6 i

/-- The row means, in blocks of 256 rows. -/
def G10 (X : Fin 8192 → Fin 3584 → EReal) (a4 : FVec Ideal S2x4096x3584 .bf16) (a6 : FVec Ideal S2x4096 .f32)
    (a7 : FVec Ideal S3584 .f32) : FVec Ideal S32x1x256 .f32 := fun y =>
  RD X a4 a6 a7 ⟨256 * (y 0 : ℕ) + (y 2 : ℕ), by idx_bounds; omega⟩

/-- The row of the whole arrays that a grid point's row is. -/
def row (t : Fin cfg0.N) (i : Fin 256) : Fin 8192 := ⟨256 * t.val + i.val, by have := (idx t).2.2.2.2.2.2.2.2.2.2.2; omega⟩

/-- The products at a grid point, in the whole arrays. -/
abbrev XM (c : Dev nD) : Fin 8192 → Fin 3584 → EReal :=
  XN (m ((c : Thread nD τ).loc main_arg0)) (m ((c : Thread nD τ).loc main_arg1)) (m ((c : Thread nD τ).loc main_arg2)) (m ((c : Thread nD τ).loc main_arg3))

theorem blk_x (c : Dev nD) (t : Fin cfg0.N) (i : Fin 256) (k : Fin 3584) :
    iblk m c 4 t (ix2 i k) = at3 (m ((c : Thread nD τ).loc main_arg4)) (row t i) k := by
  have hV : ∀ b, V m c b = StableHlo.after hostOps0 (fun b => m (c, b)) (Proc.tc.devRef b) := fun b => rfl
  simp only [iblk, hV]
  unfold at3 row
  blk_point [idx t]

theorem blk_dy (c : Dev nD) (t : Fin cfg0.N) (i : Fin 256) (k : Fin 3584) :
    iblk m c 5 t (ix2 i k) = at3 (m ((c : Thread nD τ).loc main_arg5)) (row t i) k := by
  have hV : ∀ b, V m c b = StableHlo.after hostOps0 (fun b => m (c, b)) (Proc.tc.devRef b) := fun b => rfl
  simp only [iblk, hV]
  unfold at3 row
  blk_point [idx t]

theorem blk_r (c : Dev nD) (t : Fin cfg0.N) (i : Fin 256) :
    iblk m c 6 t (ix3 0 0 i) = at2 (m ((c : Thread nD τ).loc main_arg6)) (row t i) := by
  have hV : ∀ b, V m c b = StableHlo.after hostOps0 (fun b => m (c, b)) (Proc.tc.devRef b) := fun b => rfl
  simp only [iblk, hV]
  unfold at2 row
  blk_point [idx t]

theorem blk_g (c : Dev nD) (t : Fin cfg0.N) (k : Fin 3584) :
    iblk m c 7 t (ix2 0 k) = m ((c : Thread nD τ).loc main_arg7) (ix1 k) := by
  have hV : ∀ b, V m c b = StableHlo.after hostOps0 (fun b => m (c, b)) (Proc.tc.devRef b) := fun b => rfl
  simp only [iblk, hV]
  blk_point [idx t]

theorem blk_dxn (c : Dev nD) (t : Fin cfg0.N) (i : Fin 256) (k : Fin 3584) :
    dxn (scale (iblk m c 0 t) (iblk m c 1 t)) (iblk m c 2 t) (iblk m c 3 t) (ix2 i k) = XM m c (row t i) k := by
  have hV : ∀ b, V m c b = StableHlo.after hostOps0 (fun b => m (c, b)) (Proc.tc.devRef b) := fun b => rfl
  unfold dxn XM XN scale row
  refine congr (congrArg (fun a b : EReal => a * b) ?_) ?_
  · refine Finset.sum_congr rfl fun l _ => ?_
    refine congr (congrArg (fun a b : EReal => a * b) ?_) ?_
    · simp only [iblk, hV]
      blk_point [idx t]
    · simp only [iblk, hV]
      blk_point [idx t]
  · pointwise [k0_pay1]
    simp only [iblk, hV]
    blk_point [idx t]

end Cert.DxIdeal.Value

end

end
-- ==== Proof.DxReference.lean ====
module

public import proofs.«01_k».proof.Proof.Gen.DxReferenceIdeal.Frame
public import proofs.«01_k».proof.Proof.DxValue

@[expose] public section

set_option maxRecDepth 16384

noncomputable section

open Idealize.ShloMosaic Idealize.ShloMosaic.TcCoe Idealize.SL.Sem
open Idealize.ShloMosaic.Pipeline (Dat)

namespace Cert.DxReferenceIdeal.Value

open Cert.DxReferenceIdeal Cert.DxReferenceIdeal.Gen

variable (m : (ℓ : Loc nD τ sig) → Buf (Elt Ideal) ℓ)

/-- The one grid point's blocks are the whole arrays. -/
theorem idx : ∀ t : Fin cfg0.N, win0_0.index t = ![0] ∧ win0_1.index t = ![0] ∧ win0_2.index t = ![0, 0] ∧ win0_3.index t = ![0, 0]
    ∧ win0_4.index t = ![0, 0] :=
  (by decide +kernel : ∀ t : Fin grid0.N, _)

/-- The product, a row per batch and position. -/
def H (x0 x1 : FVec Ideal S1 .f32) (x2 : FVec Ideal S2x36x4096x128 .fp8e5m2) (x3 : FVec Ideal S3584x36x128 .fp8e4m3) :
    FVec Ideal S8192x3584 .f32 := fun y => Cert.DxIdeal.Value.XN x0 x1 x2 x3 (y 0) (y 1)

/-- The call's result array. -/
theorem final (c : Dev nD) : (dats m 0 c).arrAt 4 (cfgs 0).N
    = H (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out [read_unread_whole]
  pointwise [k0_pay1, H, Cert.DxIdeal.Value.XN]
  have hV : ∀ b, V m c b = StableHlo.after hostOps0 (fun b => m (c, b)) (Proc.tc.devRef b) := fun b => rfl
  simp only [iblk, hV]
  blk_point [idx t0_0]

end Cert.DxReferenceIdeal.Value

end

end
-- ==== Proof.DxFinal.lean ====
module

public import proofs.«01_k».proof.Proof.DxValue

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

/-- A point's row means, in the whole arrays. -/
theorem blk_rowDot (c : Dev nD) (t : Fin cfg0.N) (i : Fin 256) :
    rowDot (dxn (scale (iblk m c 0 t) (iblk m c 1 t)) (iblk m c 2 t) (iblk m c 3 t)) (iblk m c 4 t) (iblk m c 7 t) (iblk m c 6 t) i
      = RD (XM m c) (m ((c : Thread nD τ).loc main_arg4)) (m ((c : Thread nD τ).loc main_arg6)) (m ((c : Thread nD τ).loc main_arg7)) (row t i) := by
  unfold rowDot RD
  rw [blk_r m c t i]
  refine congrArg (fun z : EReal => at2 (m ((c : Thread nD τ).loc main_arg6)) (row t i) * Ideal.div z (Ideal.ofBits FTy.f32 0x45600000#32)) ?_
  refine Finset.sum_congr rfl fun k _ => ?_
  rw [blk_dxn m c t i k, blk_x m c t i k, blk_g m c t k]
  exact mul_right_comm _ _ _

/-- A point's block of `dx`, in the whole arrays. -/
theorem key8 (c : Dev nD) (t : Fin cfg0.N) (y : S256x3584.Idx) :
    (outsAt0 m c t.val t.isLt).1 y = (G8 (XM m c) (m ((c : Thread nD τ).loc main_arg4)) (m ((c : Thread nD τ).loc main_arg5)) (m ((c : Thread nD τ).loc main_arg6)) (m ((c : Thread nD τ).loc main_arg7))) (ix2 (row t (y 0)) (y 1)) := by
  have h : (outsAt0 m c t.val t.isLt).1 y
      = dxVal (dxn (scale (iblk m c 0 t) (iblk m c 1 t)) (iblk m c 2 t) (iblk m c 3 t)) (iblk m c 4 t) (iblk m c 5 t) (iblk m c 7 t) (iblk m c 6 t) y := by
    by_cases h0 : t.val % 32 = 0
    · exact step8A m c t h0 y
    · exact step8B m c t h0 y
  refine h.trans ?_
  idx_vars y
  unfold dxVal G8
  have hx := blk_x m c t y0 y1
  have hd := blk_dy m c t y0 y1
  have hr := blk_r m c t y0
  have hg := blk_g m c t y1
  have hX := blk_dxn m c t y0 y1
  have hR := blk_rowDot m c t y0
  refine congr (congrArg (fun a b : EReal => a + b) (congr (congrArg (fun a b : EReal => a - b) ?_) ?_)) hd
  · exact congr (congrArg (fun a b : EReal => a * b) (congr (congrArg (fun a b : EReal => a * b) hr) hg)) hX
  · exact congr (congrArg (fun a b : EReal => a * b) hx)
      (congr (congrArg (fun a b : EReal => a * b) (congr (congrArg (fun a b : EReal => a * b) hr) hr)) hR)

/-- The gradient of the input after the run. -/
theorem final8 (c : Dev nD) : (dats m 0 c).arrAt 8 (cfgs 0).N = (G8 (XM m c) (m ((c : Thread nD τ).loc main_arg4)) (m ((c : Thread nD τ).loc main_arg5)) (m ((c : Thread nD τ).loc main_arg6)) (m ((c : Thread nD τ).loc main_arg7))) := by
  refine (dats m 0 c).arrAt_eq_of_covers 8 _ (by decide +kernel) fun t hf y => ?_
  blk_simp
  rw [after0_8, key8]
  refine congrArg (G8 (XM m c) (m ((c : Thread nD τ).loc main_arg4)) (m ((c : Thread nD τ).loc main_arg5)) (m ((c : Thread nD τ).loc main_arg6)) (m ((c : Thread nD τ).loc main_arg7))) ?_
  unfold row
  blk_point [idx t]

/-- The row means after the run. -/
theorem final10 (c : Dev nD) : (dats m 0 c).arrAt 10 (cfgs 0).N = (G10 (XM m c) (m ((c : Thread nD τ).loc main_arg4)) (m ((c : Thread nD τ).loc main_arg6)) (m ((c : Thread nD τ).loc main_arg7))) := by
  refine (dats m 0 c).arrAt_eq_of_covers 10 _ (by decide +kernel) fun t hf y => ?_
  blk_simp
  rw [after0_10]
  have h : (outsAt0 m c t.val t.isLt).2.2 y
      = rowDot (dxn (scale (iblk m c 0 t) (iblk m c 1 t)) (iblk m c 2 t) (iblk m c 3 t)) (iblk m c 4 t) (iblk m c 7 t) (iblk m c 6 t) (y 2) := by
    by_cases h0 : t.val % 32 = 0
    · exact step10A m c t h0 y
    · exact step10B m c t h0 y
  refine h.trans ((blk_rowDot m c t _).trans ?_)
  unfold G10
  refine congrArg (RD (XM m c) (m ((c : Thread nD τ).loc main_arg4)) (m ((c : Thread nD τ).loc main_arg6)) (m ((c : Thread nD τ).loc main_arg7))) ?_
  unfold row
  blk_point [idx t]

/-- The gradient of gamma after the run. -/
theorem final9 (c : Dev nD) : (dats m 0 c).arrAt 9 (cfgs 0).N = (G9 (XM m c) (m ((c : Thread nD τ).loc main_arg4)) (m ((c : Thread nD τ).loc main_arg6))) := by
  refine (dats m 0 c).arrAt_eq_of_covers 9 _ (by decide +kernel) fun t hf y => ?_
  blk_simp
  have ht : t.val % 32 = 31 := (flush0_9 t).mp hf
  rw [after0_9, Pipeline.eq_sum_fin_of_reset_step_apply_of_flush (fun n h => (outsAt0 m c n h).2.1) 32 (fun _ => (0 : EReal))
    (fun t y => dgPart (dxn (scale (iblk m c 0 t) (iblk m c 1 t)) (iblk m c 2 t) (iblk m c 3 t)) (iblk m c 4 t) (iblk m c 6 t) y)
    (fun t h y => (step9A m c t h y).trans (zero_add _).symm) (fun t h y => step9B m c t h y) t ht _, zero_add]
  unfold G9 dgPart
  refine Fin.sum_mul_add_congr fun s k hl => ?_
  have hlt := (idx t).2.2.2.2.2.2.2.2.2.2.2
  have hrow : row ⟨_, Pipeline.run_point_lt_of_flush t ht s⟩ k = ⟨s.val * 256 + k.val, hl⟩ :=
    Fin.ext (show 256 * (32 * (t.val / 32) + s.val) + k.val = s.val * 256 + k.val by omega)
  have hy : (win0_9.blk t).view.emb y 1 = (y 1 : Fin 3584) := by
    refine Fin.ext ?_
    blk_point [idx t]
  rw [hy, ← hrow]
  exact congr (congrArg (fun a b : EReal => a * b) (congr (congrArg (fun a b : EReal => a * b)
    (blk_dxn m c _ k (y 1))) (blk_x m c _ k (y 1)))) (blk_r m c _ k)

end Cert.DxIdeal.Value

end

end
-- ==== Proof.DxTail.lean ====
module

public import proofs.«01_k».proof.Proof.DxReference
public import proofs.«01_k».proof.Proof.DxFinal

@[expose] public section

set_option maxRecDepth 16384

noncomputable section

open Idealize.ShloMosaic Idealize.ShloMosaic.TcCoe Idealize.SL.Sem
open Idealize.ShloMosaic.Pipeline (Dat)

namespace Cert.DxReferenceIdeal.Value

open Cert.DxReferenceIdeal Cert.DxReferenceIdeal.Gen

variable (m : (ℓ : Loc nD τ sig) → Buf (Elt Ideal) ℓ)

/-- Removing the first two of three axes leaves the third. -/
theorem size_of_first_two {n0 n1 n2 : ℕ} {t : Shape} (h : (⟨3, ![n0, n1, n2]⟩ : Shape).ReducesTo [0, 1] t) :
    ∃ h0 : 0 < t.rank, t.size ⟨0, h0⟩ = n2 := ⟨by rw [h.1]; exact Nat.one_pos, h.2 _⟩

/-- A sum over the first two of three axes. -/
theorem hostReduceAdd_first_two {n0 n1 n2 : ℕ} {t : Shape} (h : (⟨3, ![n0, n1, n2]⟩ : Shape).ReducesTo [0, 1] t)
    (v : (⟨3, ![n0, n1, n2]⟩ : Shape).Idx → EReal) (init : EReal) (j : t.Idx) :
    Ideal.hostReduceAdd h v init j = init + ∑ a : Fin n0, ∑ b : Fin n1,
      v (ix3 a b ⟨(j ⟨0, (size_of_first_two h).1⟩).val, Shape.coordLt (j ⟨0, (size_of_first_two h).1⟩) (size_of_first_two h).2⟩) := by
  have hf : ∀ i : (⟨3, ![n0, n1, n2]⟩ : Shape).Idx, h.drop i = j ↔ ∃ k : Fin n0 × Fin n1,
      ix3 k.1 k.2 ⟨(j ⟨0, (size_of_first_two h).1⟩).val, Shape.coordLt (j ⟨0, (size_of_first_two h).1⟩) (size_of_first_two h).2⟩ = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, (size_of_first_two h).1⟩)).symm
    · rintro ⟨k, rfl⟩
      funext b
      apply Fin.ext
      match b with
      | ⟨0, _⟩ => rfl
      | ⟨_ + 1, hb⟩ => exact absurd hb (by have : t.rank = 1 := h.1; omega)
  refine congrArg (init + ·) ((Finset.sum_filter_eq_sum_of_fiber _ (fun k : Fin n0 × Fin n1 => ix3 k.1 k.2
      ⟨(j ⟨0, (size_of_first_two h).1⟩).val, Shape.coordLt (j ⟨0, (size_of_first_two h).1⟩) (size_of_first_two h).2⟩)
    (fun _ _ e => Prod.ext (congrFun e 0) (congrFun e 1)) hf v).trans ?_)
  exact Fintype.sum_prod_type _

/-- The product after the call. -/
theorem arr_v3 (c : Dev nD) : Pipeline.withArrays (cfgs 0).spec c (V0 m c) (fun w => (dats m 0 c).arrAt w (cfgs 0).N) (Proc.tc.devRef main_v3) = H (m ((c : Thread nD τ).loc main_arg0)) (m ((c : Thread nD τ).loc main_arg1)) (m ((c : Thread nD τ).loc main_arg2)) (m ((c : Thread nD τ).loc main_arg3)) :=
  (Pipeline.withArrays_arr (cfgs 0).spec (by decide) c _ _ 4).trans (final m c)

/-- The call leaves argument 4 as it was. -/
theorem arr_arg4 (c : Dev nD) : Pipeline.withArrays (cfgs 0).spec c (V0 m c) (fun w => (dats m 0 c).arrAt w (cfgs 0).N) (Proc.tc.devRef main_arg4) = (m ((c : Thread nD τ).loc main_arg4)) :=
  (Pipeline.withArrays_of_ne _ c (V0 m c) _ main_arg4 (by exact (by decide : ∀ w, Pipeline.arrRef spec0 w ≠ main_arg4))).trans (V_main_arg4 m c)

/-- The call leaves argument 5 as it was. -/
theorem arr_arg5 (c : Dev nD) : Pipeline.withArrays (cfgs 0).spec c (V0 m c) (fun w => (dats m 0 c).arrAt w (cfgs 0).N) (Proc.tc.devRef main_arg5) = (m ((c : Thread nD τ).loc main_arg5)) :=
  (Pipeline.withArrays_of_ne _ c (V0 m c) _ main_arg5 (by exact (by decide : ∀ w, Pipeline.arrRef spec0 w ≠ main_arg5))).trans (V_main_arg5 m c)

/-- The call leaves argument 6 as it was. -/
theorem arr_arg6 (c : Dev nD) : Pipeline.withArrays (cfgs 0).spec c (V0 m c) (fun w => (dats m 0 c).arrAt w (cfgs 0).N) (Proc.tc.devRef main_arg6) = (m ((c : Thread nD τ).loc main_arg6)) :=
  (Pipeline.withArrays_of_ne _ c (V0 m c) _ main_arg6 (by exact (by decide : ∀ w, Pipeline.arrRef spec0 w ≠ main_arg6))).trans (V_main_arg6 m c)

/-- The call leaves argument 7 as it was. -/
theorem arr_arg7 (c : Dev nD) : Pipeline.withArrays (cfgs 0).spec c (V0 m c) (fun w => (dats m 0 c).arrAt w (cfgs 0).N) (Proc.tc.devRef main_arg7) = (m ((c : Thread nD τ).loc main_arg7)) :=
  (Pipeline.withArrays_of_ne _ c (V0 m c) _ main_arg7 (by exact (by decide : ∀ w, Pipeline.arrRef spec0 w ≠ main_arg7))).trans (V_main_arg7 m c)

/-- The reference's gradient of the input. -/
theorem tail35 (c : Dev nD) : Pipeline.afterTail₀ cfgs (dats m) 0 (V0 m) [hostOps1] c main_v35 = Cert.DxIdeal.Value.G8 (Cert.DxIdeal.Value.XN (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) := by
  unfold Pipeline.afterTail₀
  simp only [List.flatten_cons, List.flatten_nil, List.append_nil, hostOps1]
  after_results
  rw [arr_v3 m c, arr_arg4 m c, arr_arg5 m c, arr_arg6 m c, arr_arg7 m c]
  generalize (m ((c : Thread nD τ).loc main_arg0)) = a0
  generalize (m ((c : Thread nD τ).loc main_arg1)) = a1
  generalize (m ((c : Thread nD τ).loc main_arg2)) = a2
  generalize (m ((c : Thread nD τ).loc main_arg3)) = a3
  generalize (m ((c : Thread nD τ).loc main_arg4)) = a4
  generalize (m ((c : Thread nD τ).loc main_arg5)) = a5
  generalize (m ((c : Thread nD τ).loc main_arg6)) = a6
  generalize (m ((c : Thread nD τ).loc main_arg7)) = a7
  funext y
  pointwise [H]
  unfold Cert.DxIdeal.Value.G8 Cert.DxIdeal.Value.RD Cert.DxIdeal.Value.at2 Cert.DxIdeal.Value.at3
  have hrow : ∀ h, (⟨(y 0 : ℕ) / 4096 * 4096 + (y 0 : ℕ) % 4096, h⟩ : Fin 8192) = y 0 := fun h =>
    Fin.ext (show (y 0 : ℕ) / 4096 * 4096 + (y 0 : ℕ) % 4096 = (y 0 : ℕ) by omega)
  simp only [hrow, mul_assoc]

/-- The reference's gradient of gamma. -/
theorem tail36 (c : Dev nD) : Pipeline.afterTail₀ cfgs (dats m) 0 (V0 m) [hostOps1] c main_v36 = Cert.DxIdeal.Value.G9 (Cert.DxIdeal.Value.XN (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg6)) := by
  unfold Pipeline.afterTail₀
  simp only [List.flatten_cons, List.flatten_nil, List.append_nil, hostOps1]
  after_results
  rw [arr_v3 m c, arr_arg4 m c, arr_arg6 m c]
  generalize (m ((c : Thread nD τ).loc main_arg0)) = a0
  generalize (m ((c : Thread nD τ).loc main_arg1)) = a1
  generalize (m ((c : Thread nD τ).loc main_arg2)) = a2
  generalize (m ((c : Thread nD τ).loc main_arg3)) = a3
  generalize (m ((c : Thread nD τ).loc main_arg4)) = a4
  generalize (m ((c : Thread nD τ).loc main_arg5)) = a5
  generalize (m ((c : Thread nD τ).loc main_arg6)) = a6
  generalize (m ((c : Thread nD τ).loc main_arg7)) = a7
  funext y
  pointwise [H]
  unfold Cert.DxIdeal.Value.G9 Cert.DxIdeal.Value.at2 Cert.DxIdeal.Value.at3
  rw [hostReduceAdd_first_two, zero_add]
  refine Fin.sum_mul_add_congr fun s k hl => ?_
  pointwise
  have hb : (s.val * 4096 + k.val) / 4096 = s.val := by omega
  have hs : (s.val * 4096 + k.val) % 4096 = k.val := by omega
  simp only [hb, hs]

/-- The reference's row means. -/
theorem tail37 (c : Dev nD) : Pipeline.afterTail₀ cfgs (dats m) 0 (V0 m) [hostOps1] c main_v37 = Cert.DxIdeal.Value.G10 (Cert.DxIdeal.Value.XN (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg6)) (m ((c : Thread nD τ).loc main_arg7)) := by
  unfold Pipeline.afterTail₀
  simp only [List.flatten_cons, List.flatten_nil, List.append_nil, hostOps1]
  after_results
  rw [arr_v3 m c, arr_arg4 m c, arr_arg6 m c, arr_arg7 m c]
  generalize (m ((c : Thread nD τ).loc main_arg0)) = a0
  generalize (m ((c : Thread nD τ).loc main_arg1)) = a1
  generalize (m ((c : Thread nD τ).loc main_arg2)) = a2
  generalize (m ((c : Thread nD τ).loc main_arg3)) = a3
  generalize (m ((c : Thread nD τ).loc main_arg4)) = a4
  generalize (m ((c : Thread nD τ).loc main_arg5)) = a5
  generalize (m ((c : Thread nD τ).loc main_arg6)) = a6
  generalize (m ((c : Thread nD τ).loc main_arg7)) = a7
  funext y
  pointwise [H]
  unfold Cert.DxIdeal.Value.G10 Cert.DxIdeal.Value.RD Cert.DxIdeal.Value.at2 Cert.DxIdeal.Value.at3
  have hy : (y 2 : ℕ) < 256 := (y 2).isLt
  have hrow : ∀ h h', (⟨(y 0 : ℕ) / 16 * 4096 + ((y 0 : ℕ) % 16 * 256 + (y 2 : ℕ)), h⟩ : Fin 8192) = ⟨256 * (y 0 : ℕ) + (y 2 : ℕ), h'⟩ :=
    fun h h' => Fin.ext (show (y 0 : ℕ) / 16 * 4096 + ((y 0 : ℕ) % 16 * 256 + (y 2 : ℕ)) = 256 * (y 0 : ℕ) + (y 2 : ℕ) by omega)
  have hb : (256 * (y 0 : ℕ) + (y 2 : ℕ)) / 4096 = (y 0 : ℕ) / 16 := by omega
  have hs : (256 * (y 0 : ℕ) + (y 2 : ℕ)) % 4096 = (y 0 : ℕ) % 16 * 256 + (y 2 : ℕ) := by omega
  simp only [hrow _ (by idx_bounds; omega), hb, hs]

end Cert.DxReferenceIdeal.Value

end

end
-- ==== Proof.DxClaim.lean ====
module

public import proofs.«01_k».proof.Defs
public import proofs.«01_k».proof.Proof.DxTail
public import Idealize.ShloMosaic.Lib.Claim

@[expose] public section

noncomputable section

open Idealize.ShloMosaic Idealize.ShloMosaic.TcCoe Idealize.SL.Sem

namespace Cert.Proof

/-- The gradient of the layer's input, the gradient of gamma and the row means: over the reals, the kernel and the reference leave the same three arrays. -/
theorem algebraic_dx : Cert.algebraic_DxIdeal_DxReferenceIdeal (hDxIdeal := Cert.DxIdeal.Gen.facts)
    (hDxReferenceIdeal := Cert.DxReferenceIdeal.Gen.facts) := by
  pair_intro
  · run_from Cert.DxIdeal.Gen.run_main m g
  · run_from Cert.DxReferenceIdeal.Gen.unchanged m' g' & Cert.DxReferenceIdeal.Gen.run_main m' g'
    · rw [Cert.DxIdeal.Value.final8 m c, Cert.DxReferenceIdeal.Value.tail35 m' c]
      obtain ⟨h0, h1, h2, h3, h4, h5, h6, h7⟩ := hagree c
      rw [h0, h1, h2, h3, h4, h5, h6, h7]
    · rw [Cert.DxIdeal.Value.final9 m c, Cert.DxReferenceIdeal.Value.tail36 m' c]
      obtain ⟨h0, h1, h2, h3, h4, h5, h6, h7⟩ := hagree c
      rw [h0, h1, h2, h3, h4, h6]
    · rw [Cert.DxIdeal.Value.final10 m c, Cert.DxReferenceIdeal.Value.tail37 m' c]
      obtain ⟨h0, h1, h2, h3, h4, h5, h6, h7⟩ := hagree c
      rw [h0, h1, h2, h3, h4, h6, h7]

end Cert.Proof

end

end
-- ==== Proof.ScaleValue.lean ====
module

public import proofs.«01_k».proof.Proof.Gen.ScaleIdeal.Frame
public import proofs.«01_k».proof.Proof.Acc

@[expose] public section

set_option maxRecDepth 16384

noncomputable section

open Idealize.ShloMosaic Idealize.ShloMosaic.TcCoe Idealize.SL.Sem
open Idealize.ShloMosaic.Pipeline (Dat)

namespace Cert.ScaleIdeal.Value

open Cert.ScaleIdeal Cert.ScaleIdeal.Gen

variable (m : (ℓ : Loc nD τ sig) → Buf (Elt Ideal) ℓ)

/-- A fold of the maximum is at most `b` exactly when its start and every value met are. -/
theorem foldl_max_le {ι : Type} (f : ι → EReal) (b : EReal) (l : List ι) (z : EReal) :
    l.foldl (fun r n => max r (f n)) z ≤ b ↔ z ≤ b ∧ ∀ n ∈ l, f n ≤ b := by
  induction l generalizing z with
  | nil => simp
  | cons a l ih => rw [List.foldl_cons, ih, max_le_iff, List.forall_mem_cons, and_assoc]

/-- The greatest of a whole array, from a start below everything, is at most `b` exactly when every element is. -/
theorem hostReduce_le {φ : FTy} {s t u : Shape} {axes : List (Fin s.rank)} (x : FVec Ideal s φ) (init : FVec Ideal u φ) (h : s.ReducesTo axes t)
    (hu : 0 < u.numel) (hi : init (Shape.Idx.first hu) = (⊥ : EReal)) (j : t.Idx) (hj : ∀ i, h.drop i = j) (b : EReal) :
    Host.reduce (α := EReal) max x init h hu j ≤ b ↔ ∀ i, (x i : EReal) ≤ b := by
  unfold Host.reduce
  refine (foldl_max_le (fun n => x (s.rowMajor.symm n)) b _ (init (Shape.Idx.first hu))).trans ?_
  rw [hi]
  constructor
  · rintro ⟨-, h2⟩ i
    have := h2 (s.rowMajor i) (by simp [hj])
    rwa [Equiv.symm_apply_apply] at this
  · exact fun h2 => ⟨bot_le, fun n _ => h2 _⟩

/-- The word of minus infinity, in the narrow format and in the wide one. -/
theorem bot_bf16 : Ideal.ofBits .bf16 0xFF80#16 = (⊥ : EReal) := by simp [Ideal.ofBits, Ideal.ieee]
theorem bot_f32 : Ideal.ofBits .f32 0xFF800000#32 = (⊥ : EReal) := by simp [Ideal.ofBits, Ideal.ieee]

/-- One block's part at row `r` and column `c` is at most `b` exactly when every sixteenth row's magnitude is. -/
theorem part_le (B : Vec Ideal S512x3584 .bf16) (r : Fin 16) (c : Fin 3584) (b : EReal) :
    (k0_pay1 (F := Ideal) B (ix2 r c) : EReal) ≤ b ↔ ∀ g : Fin 32, (FloatOps.absf (F := Ideal) (φ := .bf16) (B (ix2 ⟨16 * g.val + r.val, by omega⟩ c)) : EReal) ≤ b := by
  unfold k0_pay1
  pointwise
  rw [Finset.fold_max_le]
  rw [bot_bf16]
  constructor
  · intro h g
    have := h.2 g (Finset.mem_univ g)
    simpa only [Nat.mul_comm] using this
  · intro h
    refine ⟨bot_le, fun g _ => ?_⟩
    simpa only [Nat.mul_comm] using h g

/-- The first point leaves its part. -/
theorem stepA (c : Dev nD) (t : Fin cfg0.N) (h0 : t.val % 16 = 0) (h1 : ¬1 ≤ t.val) (y : S16x3584.Idx) :
    outsAt0 m c t.val t.isLt y = k0_pay1 (iblk m c 0 t) y := by
  rw [outsAt0_A m c t h0 h1]
  frame_out

/-- Every later point leaves the greater of its part and what the point before left. -/
theorem stepB (c : Dev nD) (t : Fin cfg0.N) (h0 : ¬t.val % 16 = 0) (h1 : 1 ≤ t.val) (y : S16x3584.Idx) :
    (outsAt0 m c t.val t.isLt y : EReal) = max (outsAt0 m c (t.val - 1) (Nat.lt_of_le_of_lt (Nat.sub_le _ _) t.isLt) y) (k0_pay1 (F := Ideal) (iblk m c 0 t) y) := by
  rw [outsAt0_B m c t h0 h1]
  frame_out
  dsimp only [k0_pay2]
  generalize outsAt0 m c (t.val - 1) _ = A
  pointwise

/-- The windows' block indices at each grid point. -/
theorem idx : ∀ t : Fin cfg0.N, win0_0.index t = ![t.val, 0] ∧ win0_1.index t = ![0, 0] ∧ t.val < 16 :=
  (by decide +kernel : ∀ t : Fin grid0.N, _)

/-- A point's block of the input. -/
theorem blk_at (c : Dev nD) (t : Fin cfg0.N) (r : Fin 512) (k : Fin 3584) :
    iblk m c 0 t (ix2 r k) = m ((c : Thread nD τ).loc main_arg0) (ix3 ⟨(512 * t.val + r.val) / 4096, by have := (idx t).2.2; omega⟩
      ⟨(512 * t.val + r.val) % 4096, by omega⟩ k) := by
  have hV : ∀ b, V m c b = StableHlo.after hostOps0 (fun b => m (c, b)) (Proc.tc.devRef b) := fun b => rfl
  simp only [iblk, hV]
  simp only [hostOps0]
  after_results
  pointwise
  blk_point [idx t]

/-- The running maximum after a point is at most `b` exactly when every magnitude met so far in its row class and column is. -/
theorem outs_le (c : Dev nD) (r : Fin 16) (k : Fin 3584) (b : EReal) : ∀ (n : ℕ) (hn : n < cfg0.N),
    (outsAt0 m c n hn (ix2 r k) : EReal) ≤ b ↔ ∀ (t : Fin cfg0.N), t.val ≤ n → ∀ g : Fin 32,
      (FloatOps.absf (F := Ideal) (φ := .bf16) (iblk m c 0 t (ix2 ⟨16 * g.val + r.val, by omega⟩ k)) : EReal) ≤ b := by
  intro n
  induction n with
  | zero =>
    intro hn
    rw [show outsAt0 m c 0 hn (ix2 r k) = _ from stepA m c ⟨0, hn⟩ (Nat.zero_mod _) (by show ¬1 ≤ 0; omega) _, part_le]
    constructor
    · intro h t ht g
      obtain rfl : t = ⟨0, hn⟩ := Fin.ext (by show t.val = 0; omega)
      exact h g
    · exact fun h g => h ⟨0, hn⟩ (le_refl _) g
  | succ n ih =>
    intro hn
    have hN : n + 1 < 16 := (idx ⟨n + 1, hn⟩).2.2
    rw [show (outsAt0 m c (n + 1) hn (ix2 r k) : EReal) = _ from stepB m c ⟨n + 1, hn⟩ (by show ¬(n + 1) % 16 = 0; omega) (by show 1 ≤ n + 1; omega) _, max_le_iff, part_le]
    have h1 := ih (Nat.lt_of_succ_lt hn)
    constructor
    · rintro ⟨ha, hb⟩ t ht g
      rcases Nat.lt_or_ge t.val (n + 1) with h | h
      · exact h1.mp ha t (by omega) g
      · obtain rfl : t = ⟨n + 1, hn⟩ := Fin.ext (by show t.val = n + 1; omega)
        exact hb g
    · exact fun h => ⟨h1.mpr fun t ht g => h t (by omega) g, fun g => h ⟨n + 1, hn⟩ (le_refl _) g⟩

/-- The call's result: what the last point leaves. -/
theorem final (c : Dev nD) : (dats m 0 c).arrAt 1 (cfgs 0).N = outsAt0 m c 15 (by decide) := by
  refine (dats m 0 c).arrAt_eq_of_covers 1 _ (by decide +kernel) fun t hf y => ?_
  blk_simp
  rw [after0_1]
  have hy : (win0_1.blk t).view.emb y = y := by
    funext a
    apply Fin.ext
    match a with
    | ⟨0, _⟩ => blk_point [idx t]
    | ⟨1, _⟩ => blk_point [idx t]
  have ht : t.val = 15 := by have h := (flush0_1 t).mp hf; have := (idx t).2.2; omega
  obtain rfl : t = ⟨15, by decide⟩ := Fin.ext ht
  exact (congrArg (outsAt0 m c 15 (by decide)) hy).symm

/-- Every element of the call's result is at most `b` exactly when every magnitude of the input is. -/
theorem all_le (c : Dev nD) (b : EReal) : (∀ i : S16x3584.Idx, (outsAt0 m c 15 (by decide) i : EReal) ≤ b)
    ↔ ∀ i : S2x4096x3584.Idx, (FloatOps.absf (F := Ideal) (φ := .bf16) (m ((c : Thread nD τ).loc main_arg0) i) : EReal) ≤ b := by
  constructor
  · intro h i
    obtain ⟨p, q, k, rfl⟩ : ∃ (p : Fin 2) (q : Fin 4096) (k : Fin 3584), ix3 p q k = i :=
      ⟨i 0, i 1, i 2, by funext a; match a with | ⟨0, _⟩ => rfl | ⟨1, _⟩ => rfl | ⟨2, _⟩ => rfl⟩
    have := (outs_le m c ⟨q.val % 16, by omega⟩ k b 15 (by decide)).mp (h _)
      ⟨(4096 * p.val + q.val) / 512, by show _ < 16; omega⟩ (by show _ / 512 ≤ 15; omega) ⟨q.val % 512 / 16, by omega⟩
    rw [blk_at] at this
    convert this using 3
    funext a
    apply Fin.ext
    match a with
    | ⟨0, _⟩ =>
      show p.val = (512 * ((4096 * p.val + q.val) / 512) + (16 * (q.val % 512 / 16) + q.val % 16)) / 4096
      omega
    | ⟨1, _⟩ =>
      show q.val = (512 * ((4096 * p.val + q.val) / 512) + (16 * (q.val % 512 / 16) + q.val % 16)) % 4096
      omega
    | ⟨2, _⟩ => rfl
  · intro h i
    obtain ⟨r, k, rfl⟩ : ∃ (r : Fin 16) (k : Fin 3584), ix2 r k = i := ⟨i 0, i 1, by funext a; match a with | ⟨0, _⟩ => rfl | ⟨1, _⟩ => rfl⟩
    refine (outs_le m c r k b 15 (by decide)).mpr fun t _ g => ?_
    rw [blk_at]
    exact h _

/-- The call's result among the buffers after the call. -/
theorem arr_v1 (c : Dev nD) : Pipeline.withArrays (cfgs 0).spec c (V0 m c) (fun w => (dats m 0 c).arrAt w (cfgs 0).N) (Proc.tc.devRef main_v1) = outsAt0 m c 15 (by decide) :=
  (Pipeline.withArrays_arr (cfgs 0).spec (by decide) c _ _ 1).trans (final m c)

/-- The scale from the greatest magnitude: that over the format's greatest finite value, or one if it is not above zero. -/
def scaleOf (A : FVec Ideal S_ .f32) : FVec Ideal S1 .f32 :=
  select (cmpf .ogt (shapeCast S1 A shapeCasts_S_S1) (broadcastInDim S1 ![] bcast_S_S1 (constant S_ .f32 0x00000000#32)))
    (Host.divf (shapeCast S1 A shapeCasts_S_S1) (broadcastInDim S1 ![] bcast_S_S1 (constant S_ .f32 0x47600000#32)))
    (broadcastInDim S1 ![] bcast_S_S1 (constant S_ .f32 0x3F800000#32))

/-- The greatest element of the call's result, as the host takes it. -/
@[irreducible] def amax (c : Dev nD) : FVec Ideal S_ .f32 :=
  extf .f32 (Host.reduce (FloatOps.maximumf (F := Ideal) (φ := .bf16)) (outsAt0 m c 15 (by decide)) (constant (F := Ideal) S_ .bf16 0xFF80#16) reducesTo_S16x3584_S_d0_1 h_S_) bitsLt_bf16_f32

/-- What the name stands for. -/
theorem amax_def (c : Dev nD) : amax m c =
  extf .f32 (Host.reduce (FloatOps.maximumf (F := Ideal) (φ := .bf16)) (outsAt0 m c 15 (by decide)) (constant (F := Ideal) S_ .bf16 0xFF80#16) reducesTo_S16x3584_S_d0_1 h_S_) bitsLt_bf16_f32 := by
  unfold amax; rfl

/-- Over the reals, widening a number's format leaves the number. -/
theorem extf_le (A : FVec Ideal S_ .bf16) (j : S_.Idx) (b : EReal) : (extf .f32 A bitsLt_bf16_f32 j : EReal) ≤ b ↔ (A j : EReal) ≤ b := Iff.rfl

/-- It is at most `b` exactly when every magnitude of the input is. -/
theorem amax_le (c : Dev nD) (j : S_.Idx) (b : EReal) : (amax m c j : EReal) ≤ b
    ↔ ∀ i : S2x4096x3584.Idx, (FloatOps.absf (F := Ideal) (φ := .bf16) (m ((c : Thread nD τ).loc main_arg0) i) : EReal) ≤ b := by
  unfold amax
  refine (extf_le _ j b).trans ?_
  exact (hostReduce_le (outsAt0 m c 15 (by decide)) _ reducesTo_S16x3584_S_d0_1 h_S_ bot_bf16 j (fun _ => by funext a; exact a.elim0) b).trans (all_le m c b)

/-- The buffers the host's last lines meet hold the values at their own types. -/
theorem buf_v9 (v : (⟨S1, .f32⟩ : BufTy).Contents (Elt Ideal)) (h₁ h₂ h₃) : (StableHlo.TRef.of (T := ⟨S1, .f32⟩) main_v9 h₁ h₂ h₃).toBuf v = v := rfl
theorem buf_v6 (v : (⟨S1, .i1⟩ : BufTy).Contents (Elt Ideal)) (h₁ h₂ h₃) : (StableHlo.TRef.of (T := ⟨S1, .i1⟩) main_v6 h₁ h₂ h₃).ofBuf v = v := rfl
theorem buf_v8 (v : (⟨S1, .f32⟩ : BufTy).Contents (Elt Ideal)) (h₁ h₂ h₃) : (StableHlo.TRef.of (T := ⟨S1, .f32⟩) main_v8 h₁ h₂ h₃).ofBuf v = v := rfl
theorem buf_cst_2 (v : (⟨S_, .f32⟩ : BufTy).Contents (Elt Ideal)) (h₁ h₂ h₃) : (StableHlo.TRef.of (T := ⟨S_, .f32⟩) main_cst_2 h₁ h₂ h₃).ofBuf v = v := rfl

/-- The result after the host's last lines. -/
theorem tail9 (c : Dev nD) : Pipeline.afterTail₀ cfgs (dats m) 0 (V0 m) [hostOps1, hostOps1_1] c main_v9
    = scaleOf (amax m c) := by
  unfold Pipeline.afterTail₀
  simp only [List.flatten_cons, List.flatten_nil, List.append_nil, hostOps1, hostOps1_1, List.cons_append, List.nil_append]
  after_results
  rw [arr_v1 m c]
  rw [← amax_def m c]
  generalize amax m c = A
  rw [StableHlo.TRef.ofBuf_toBuf, StableHlo.TRef.ofBuf_toBuf, buf_v9, buf_v6, buf_v8, buf_cst_2]
  unfold scaleOf
  rfl

end Cert.ScaleIdeal.Value

end

end
-- ==== Proof.ScaleReference.lean ====
module

public import proofs.«01_k».proof.Proof.ScaleValue
public import proofs.«01_k».proof.Proof.Gen.ScaleReferenceIdeal

@[expose] public section

set_option maxRecDepth 16384

noncomputable section

open Idealize.ShloMosaic Idealize.ShloMosaic.TcCoe Idealize.SL.Sem

namespace Cert.ScaleReferenceIdeal.Value

open Cert.ScaleReferenceIdeal

/-- The greatest magnitude of an array, as the reference takes it. -/
@[irreducible] def greatest (X : FVec Ideal S2x4096x3584 .bf16) : FVec Ideal S_ .f32 :=
  Host.reduce FloatOps.maximumf (Host.absf (extf .f32 X Gen.bitsLt_bf16_f32)) (constant S_ .f32 0xFF800000#32) Gen.reducesTo_S2x4096x3584_S_d0_1_2 Gen.h_S_

/-- It is at most `b` exactly when every magnitude is. -/
theorem greatest_le (X : FVec Ideal S2x4096x3584 .bf16) (j : S_.Idx) (b : EReal) :
    (greatest X j : EReal) ≤ b ↔ ∀ i, (FloatOps.absf (F := Ideal) (φ := .bf16) (X i) : EReal) ≤ b := by
  unfold greatest
  exact Cert.ScaleIdeal.Value.hostReduce_le (Host.absf (extf .f32 X Gen.bitsLt_bf16_f32)) _ _ _ Cert.ScaleIdeal.Value.bot_f32 j (fun _ => by funext a; exact a.elim0) b

/-- What the name stands for. -/
theorem greatest_def (X : FVec Ideal S2x4096x3584 .bf16) : greatest X
    = Host.reduce FloatOps.maximumf (Host.absf (extf .f32 X Gen.bitsLt_bf16_f32)) (constant S_ .f32 0xFF800000#32) Gen.reducesTo_S2x4096x3584_S_d0_1_2 Gen.h_S_ := by
  unfold greatest; rfl

/-- The two maxima are one number: what the call and the host leave, and what the reference takes. -/
theorem greatest_eq (m : (ℓ : Loc Cert.ScaleIdeal.nD Cert.ScaleIdeal.τ Cert.ScaleIdeal.sig) → Buf (Elt Ideal) ℓ) (c : Dev Cert.ScaleIdeal.nD) :
    greatest (m ((c.tc : Thread Cert.ScaleIdeal.nD Cert.ScaleIdeal.τ).loc Cert.ScaleIdeal.main_arg0)) = Cert.ScaleIdeal.Value.amax m c := by
  funext j
  exact eq_of_forall_ge_iff fun b => (greatest_le _ j b).trans (Cert.ScaleIdeal.Value.amax_le m c j b).symm

/-- The buffers the last lines meet hold the values at their own types. -/
theorem buf_v8 (v : (⟨S1, .f32⟩ : BufTy).Contents (Elt Ideal)) (h₁ h₂ h₃) : (StableHlo.TRef.of (T := ⟨S1, .f32⟩) main_v8 h₁ h₂ h₃).toBuf v = v := rfl
theorem buf_v5 (v : (⟨S1, .i1⟩ : BufTy).Contents (Elt Ideal)) (h₁ h₂ h₃) : (StableHlo.TRef.of (T := ⟨S1, .i1⟩) main_v5 h₁ h₂ h₃).ofBuf v = v := rfl
theorem buf_v7 (v : (⟨S1, .f32⟩ : BufTy).Contents (Elt Ideal)) (h₁ h₂ h₃) : (StableHlo.TRef.of (T := ⟨S1, .f32⟩) main_v7 h₁ h₂ h₃).ofBuf v = v := rfl
theorem buf_cst_2 (v : (⟨S_, .f32⟩ : BufTy).Contents (Elt Ideal)) (h₁ h₂ h₃) : (StableHlo.TRef.of (T := ⟨S_, .f32⟩) main_cst_2 h₁ h₂ h₃).ofBuf v = v := rfl

end Cert.ScaleReferenceIdeal.Value

end

end
-- ==== Proof.ScaleClaim.lean ====
module

public import proofs.«01_k».proof.Defs
public import proofs.«01_k».proof.Proof.ScaleReference
public import proofs.«01_k».proof.Proof.Gen.ScaleReferenceIdeal
public import Idealize.ShloMosaic.Lib.Claim

@[expose] public section

set_option maxRecDepth 16384

noncomputable section

open Idealize.ShloMosaic Idealize.ShloMosaic.TcCoe Idealize.SL.Sem
open Cert.ScaleReferenceIdeal.Value

namespace Cert.Proof

/-- The reference of the scale leaves its argument as it was, and no semaphore counted up. -/
theorem quiescent_scaleReferenceIdeal : Cert.quiescent_ScaleReferenceIdeal (hScaleReferenceIdeal := Cert.ScaleReferenceIdeal.Gen.facts) := by
  intro m g _
  hlo_run
  · exact fun _ => trivial
  · exact Idealize.ShloMosaic.sem_eq_zero_of_no_sems (sig := Cert.ScaleReferenceIdeal.sig) (by decide) _

/-- The scale of the output's gradient: over the reals, the kernel and the reference leave the same number. -/
theorem algebraic_scale : Cert.algebraic_ScaleIdeal_ScaleReferenceIdeal (hScaleIdeal := Cert.ScaleIdeal.Gen.facts)
    (hScaleReferenceIdeal := Cert.ScaleReferenceIdeal.Gen.facts) := by
  pair_intro
  · run_from Cert.ScaleIdeal.Gen.unchanged m g & Cert.ScaleIdeal.Gen.run_main m g
  · hlo_run
    rw [Cert.ScaleIdeal.Value.tail9 m c, ← greatest_eq m c]
    have hd := greatest_def (m ((c.tc : Thread Cert.ScaleIdeal.nD Cert.ScaleIdeal.τ).loc Cert.ScaleIdeal.main_arg0))
    rw [← hd]
    clear hd
    generalize greatest _ = A
    rw [StableHlo.TRef.ofBuf_toBuf, StableHlo.TRef.ofBuf_toBuf, buf_v8, buf_v5, buf_v7, buf_cst_2]
    unfold Cert.ScaleIdeal.Value.scaleOf
    rfl

end Cert.Proof

end

end
-- ==== Proof.lean ====
module

public import proofs.«01_k».proof.Defs
public import proofs.«01_k».proof.Proof.Gen.Dwo.Frame
public import proofs.«01_k».proof.Proof.Gen.DwoIdeal.Frame
public import proofs.«01_k».proof.Proof.Gen.DwoReferenceIdeal.Frame
public import proofs.«01_k».proof.Proof.Gen.Dwqkv.Frame
public import proofs.«01_k».proof.Proof.Gen.DwqkvIdeal.Frame
public import proofs.«01_k».proof.Proof.Gen.DwqkvReferenceIdeal.Frame
public import proofs.«01_k».proof.Proof.Gen.Dx.Frame
public import proofs.«01_k».proof.Proof.Gen.DxIdeal.Frame
public import proofs.«01_k».proof.Proof.Gen.DxReferenceIdeal.Frame
public import proofs.«01_k».proof.Proof.Gen.Scale.Frame
public import proofs.«01_k».proof.Proof.Gen.ScaleIdeal.Frame
public import proofs.«01_k».proof.Proof.Gen.ScaleReferenceIdeal
public import proofs.«01_k».proof.Proof.DwoClaim
public import proofs.«01_k».proof.Proof.DwqkvClaim
public import proofs.«01_k».proof.Proof.DxClaim
public import proofs.«01_k».proof.Proof.ScaleClaim
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Dwo.Gen.facts, Cert.DwoIdeal.Gen.facts, Cert.DwoReferenceIdeal.Gen.facts, Cert.Dwqkv.Gen.facts, Cert.DwqkvIdeal.Gen.facts, Cert.DwqkvReferenceIdeal.Gen.facts, Cert.Dx.Gen.facts, Cert.DxIdeal.Gen.facts, Cert.DxReferenceIdeal.Gen.facts, Cert.Scale.Gen.facts, Cert.ScaleIdeal.Gen.facts, Cert.ScaleReferenceIdeal.Gen.facts,
  fun m g _ => Cert.Dwo.Gen.frame m g,
  fun m g _ => Cert.DwoIdeal.Gen.frame m g,
  fun m g _ => Cert.DwoReferenceIdeal.Gen.frame m g,
  fun m g _ => Cert.Dwqkv.Gen.frame m g,
  fun m g _ => Cert.DwqkvIdeal.Gen.frame m g,
  fun m g _ => Cert.DwqkvReferenceIdeal.Gen.frame m g,
  fun m g _ => Cert.Dx.Gen.frame m g,
  fun m g _ => Cert.DxIdeal.Gen.frame m g,
  fun m g _ => Cert.DxReferenceIdeal.Gen.frame m g,
  fun m g _ => Cert.Scale.Gen.frame m g,
  fun m g _ => Cert.ScaleIdeal.Gen.frame m g,
  quiescent_scaleReferenceIdeal,
  trivial, algebraic_dwo, trivial, algebraic_dwqkv, trivial, algebraic_dx, trivial, algebraic_scale⟩

end Cert.Proof

end

end
